-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x64 : Shape := ⟨2, ![512, 64]⟩
abbrev S1024x1 : Shape := ⟨2, ![1024, 1]⟩
abbrev S4x512x1024 : Shape := ⟨3, ![4, 512, 1024]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S8 : Shape := ⟨1, ![8]⟩
abbrev S_ : Shape := ⟨0, ![]⟩
abbrev S1x512x1024 : Shape := ⟨3, ![1, 512, 1024]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S1024x512, .bf16⟩
  | .hbm, ⟨1, _⟩ => ⟨S512x64, .bf16⟩
  | .hbm, ⟨2, _⟩ => ⟨S1024x1, .i32⟩
  | .hbm, ⟨3, _⟩ => ⟨S4x512x1024, .bf16⟩
  | .hbm, ⟨4, _⟩ => ⟨S1024x1024, .f32⟩
  | .local _ .vmem, ⟨0, _⟩ => ⟨S1024x512, .bf16⟩
  | .local _ .vmem, ⟨1, _⟩ => ⟨S1024x1, .i32⟩
  | .local _ .vmem, ⟨2, _⟩ => ⟨S4x512x1024, .bf16⟩
  | .local _ .vmem, ⟨3, _⟩ => ⟨S1024x1024, .f32⟩
  | .local _ .vmem, ⟨4, _⟩ => ⟨S1024x1024, .bf16⟩
  | .local _ .vmem, ⟨5, _⟩ => ⟨S512x1024, .bf16⟩
  | .local _ .vmem, ⟨6, _⟩ => ⟨S256x1024, .bf16⟩
  | .local _ .vmem, ⟨7, _⟩ => ⟨S128x1024, .bf16⟩
  | .local _ .vmem, ⟨8, _⟩ => ⟨S64x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_off1 (d0 : Dev nD) : Fin 2 → Nat :=
  let c0_i32_48 : BitVec 32 := 0#32
  let c1_i32_46 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_42 : BitVec 32 := 0#32
  let v73 : BitVec 32 := Scalar.shrui v2 c0_i32_42
  let c1_i32_43 : BitVec 32 := 1#32
  let v74 : BitVec 32 := Scalar.andi v73 c1_i32_43
  let v78 : BitVec 32 := Scalar.subi c1_i32_46 v74
  let c512_i32_47 : BitVec 32 := 512#32
  let v79 : BitVec 32 := Scalar.muli v78 c512_i32_47
  let v80 : BitVec 32 := Scalar.addi c0_i32_48 v79
  let c0_i32_53 : BitVec 32 := 0#32
  ![v80.toNat, 0]
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_44 : BitVec 32 := 1#32
  let v75 : BitVec 32 := Scalar.xori v2 c1_i32_44
  let c1_i32_51 : BitVec 32 := 1#32
  let v81 : BitVec 32 := Scalar.muli v75 c1_i32_51
  let v82 : BitVec 32 := Scalar.addi c0_i32_52 v81
  v82.toNat
def k0_off2 (d0 : Dev nD) : Fin 2 → Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_42 : BitVec 32 := 0#32
  let v73 : BitVec 32 := Scalar.shrui v2 c0_i32_42
  let c1_i32_43 : BitVec 32 := 1#32
  let v74 : BitVec 32 := Scalar.andi v73 c1_i32_43
  let c512_i32 : BitVec 32 := 512#32
  let v76 : BitVec 32 := Scalar.muli v74 c512_i32
  let v77 : BitVec 32 := Scalar.addi c0_i32_45 v76
  let v93 : Index := Scalar.indexCast v77
  let c0_59 : Index := 0#32
  ![v93.toNat, 0]
def k0_off3 (d0 : Dev nD) : Fin 2 → Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_42 : BitVec 32 := 0#32
  let v73 : BitVec 32 := Scalar.shrui v2 c0_i32_42
  let c1_i32_43 : BitVec 32 := 1#32
  let v74 : BitVec 32 := Scalar.andi v73 c1_i32_43
  let c512_i32 : BitVec 32 := 512#32
  let v76 : BitVec 32 := Scalar.muli v74 c512_i32
  let v77 : BitVec 32 := Scalar.addi c0_i32_45 v76
  let c1_i32_66 : BitVec 32 := 1#32
  let c2_i32_63 : BitVec 32 := 2#32
  let v101 : BitVec 32 := Scalar.shrui v2 c2_i32_63
  let c1_i32_64 : BitVec 32 := 1#32
  let v102 : BitVec 32 := Scalar.andi v101 c1_i32_64
  let v106 : BitVec 32 := Scalar.subi c1_i32_66 v102
  let c256_i32_67 : BitVec 32 := 256#32
  let v107 : BitVec 32 := Scalar.muli v106 c256_i32_67
  let v108 : BitVec 32 := Scalar.addi v77 v107
  let c0_i32_72 : BitVec 32 := 0#32
  ![v108.toNat, 0]
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_65 : BitVec 32 := 4#32
  let v103 : BitVec 32 := Scalar.xori v2 c4_i32_65
  let c1_i32_70 : BitVec 32 := 1#32
  let v109 : BitVec 32 := Scalar.muli v103 c1_i32_70
  let v110 : BitVec 32 := Scalar.addi c0_i32_71 v109
  v110.toNat
def k0_off4 (d0 : Dev nD) : Fin 2 → Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_42 : BitVec 32 := 0#32
  let v73 : BitVec 32 := Scalar.shrui v2 c0_i32_42
  let c1_i32_43 : BitVec 32 := 1#32
  let v74 : BitVec 32 := Scalar.andi v73 c1_i32_43
  let c512_i32 : BitVec 32 := 512#32
  let v76 : BitVec 32 := Scalar.muli v74 c512_i32
  let v77 : BitVec 32 := Scalar.addi c0_i32_45 v76
  let c2_i32_63 : BitVec 32 := 2#32
  let v101 : BitVec 32 := Scalar.shrui v2 c2_i32_63
  let c1_i32_64 : BitVec 32 := 1#32
  let v102 : BitVec 32 := Scalar.andi v101 c1_i32_64
  let c256_i32 : BitVec 32 := 256#32
  let v104 : BitVec 32 := Scalar.muli v102 c256_i32
  let v105 : BitVec 32 := Scalar.addi v77 v104
  let v121 : Index := Scalar.indexCast v105
  let c0_78 : Index := 0#32
  ![v121.toNat, 0]
def k0_off5 (d0 : Dev nD) : Fin 2 → Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_42 : BitVec 32 := 0#32
  let v73 : BitVec 32 := Scalar.shrui v2 c0_i32_42
  let c1_i32_43 : BitVec 32 := 1#32
  let v74 : BitVec 32 := Scalar.andi v73 c1_i32_43
  let c512_i32 : BitVec 32 := 512#32
  let v76 : BitVec 32 := Scalar.muli v74 c512_i32
  let v77 : BitVec 32 := Scalar.addi c0_i32_45 v76
  let c2_i32_63 : BitVec 32 := 2#32
  let v101 : BitVec 32 := Scalar.shrui v2 c2_i32_63
  let c1_i32_64 : BitVec 32 := 1#32
  let v102 : BitVec 32 := Scalar.andi v101 c1_i32_64
  let c256_i32 : BitVec 32 := 256#32
  let v104 : BitVec 32 := Scalar.muli v102 c256_i32
  let v105 : BitVec 32 := Scalar.addi v77 v104
  let c1_i32_85 : BitVec 32 := 1#32
  let c1_i32_82 : BitVec 32 := 1#32
  let v129 : BitVec 32 := Scalar.shrui v2 c1_i32_82
  let c1_i32_83 : BitVec 32 := 1#32
  let v130 : BitVec 32 := Scalar.andi v129 c1_i32_83
  let v134 : BitVec 32 := Scalar.subi c1_i32_85 v130
  let c128_i32_86 : BitVec 32 := 128#32
  let v135 : BitVec 32 := Scalar.muli v134 c128_i32_86
  let v136 : BitVec 32 := Scalar.addi v105 v135
  let c0_i32_91 : BitVec 32 := 0#32
  ![v136.toNat, 0]
def k0_dev7 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_84 : BitVec 32 := 2#32
  let v131 : BitVec 32 := Scalar.xori v2 c2_i32_84
  let c1_i32_89 : BitVec 32 := 1#32
  let v137 : BitVec 32 := Scalar.muli v131 c1_i32_89
  let v138 : BitVec 32 := Scalar.addi c0_i32_90 v137
  v138.toNat
def k0_off6 (d0 : Dev nD) : Fin 2 → Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_42 : BitVec 32 := 0#32
  let v73 : BitVec 32 := Scalar.shrui v2 c0_i32_42
  let c1_i32_43 : BitVec 32 := 1#32
  let v74 : BitVec 32 := Scalar.andi v73 c1_i32_43
  let c512_i32 : BitVec 32 := 512#32
  let v76 : BitVec 32 := Scalar.muli v74 c512_i32
  let v77 : BitVec 32 := Scalar.addi c0_i32_45 v76
  let c2_i32_63 : BitVec 32 := 2#32
  let v101 : BitVec 32 := Scalar.shrui v2 c2_i32_63
  let c1_i32_64 : BitVec 32 := 1#32
  let v102 : BitVec 32 := Scalar.andi v101 c1_i32_64
  let c256_i32 : BitVec 32 := 256#32
  let v104 : BitVec 32 := Scalar.muli v102 c256_i32
  let v105 : BitVec 32 := Scalar.addi v77 v104
  let c1_i32_82 : BitVec 32 := 1#32
  let v129 : BitVec 32 := Scalar.shrui v2 c1_i32_82
  let c1_i32_83 : BitVec 32 := 1#32
  let v130 : BitVec 32 := Scalar.andi v129 c1_i32_83
  let c128_i32 : BitVec 32 := 128#32
  let v132 : BitVec 32 := Scalar.muli v130 c128_i32
  let v133 : BitVec 32 := Scalar.addi v105 v132
  let v149 : Index := Scalar.indexCast v133
  let c0_97 : Index := 0#32
  ![v149.toNat, 0]
def k0_off7 (d0 : Dev nD) : Fin 2 → Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_42 : BitVec 32 := 0#32
  let v73 : BitVec 32 := Scalar.shrui v2 c0_i32_42
  let c1_i32_43 : BitVec 32 := 1#32
  let v74 : BitVec 32 := Scalar.andi v73 c1_i32_43
  let c512_i32 : BitVec 32 := 512#32
  let v76 : BitVec 32 := Scalar.muli v74 c512_i32
  let v77 : BitVec 32 := Scalar.addi c0_i32_45 v76
  let c2_i32_63 : BitVec 32 := 2#32
  let v101 : BitVec 32 := Scalar.shrui v2 c2_i32_63
  let c1_i32_64 : BitVec 32 := 1#32
  let v102 : BitVec 32 := Scalar.andi v101 c1_i32_64
  let c256_i32 : BitVec 32 := 256#32
  let v104 : BitVec 32 := Scalar.muli v102 c256_i32
  let v105 : BitVec 32 := Scalar.addi v77 v104
  let c1_i32_82 : BitVec 32 := 1#32
  let v129 : BitVec 32 := Scalar.shrui v2 c1_i32_82
  let c1_i32_83 : BitVec 32 := 1#32
  let v130 : BitVec 32 := Scalar.andi v129 c1_i32_83
  let c128_i32 : BitVec 32 := 128#32
  let v132 : BitVec 32 := Scalar.muli v130 c128_i32
  let v133 : BitVec 32 := Scalar.addi v105 v132
  let c1_i32_104 : BitVec 32 := 1#32
  let c3_i32_101 : BitVec 32 := 3#32
  let v157 : BitVec 32 := Scalar.shrui v2 c3_i32_101
  let c1_i32_102 : BitVec 32 := 1#32
  let v158 : BitVec 32 := Scalar.andi v157 c1_i32_102
  let v162 : BitVec 32 := Scalar.subi c1_i32_104 v158
  let c64_i32_105 : BitVec 32 := 64#32
  let v163 : BitVec 32 := Scalar.muli v162 c64_i32_105
  let v164 : BitVec 32 := Scalar.addi v133 v163
  let c0_i32_110 : BitVec 32 := 0#32
  ![v164.toNat, 0]
def k0_dev8 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_103 : BitVec 32 := 8#32
  let v159 : BitVec 32 := Scalar.xori v2 c8_i32_103
  let c1_i32_108 : BitVec 32 := 1#32
  let v165 : BitVec 32 := Scalar.muli v159 c1_i32_108
  let v166 : BitVec 32 := Scalar.addi c0_i32_109 v165
  v166.toNat
def k0_off8 (d0 : Dev nD) : Fin 2 → Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_42 : BitVec 32 := 0#32
  let v73 : BitVec 32 := Scalar.shrui v2 c0_i32_42
  let c1_i32_43 : BitVec 32 := 1#32
  let v74 : BitVec 32 := Scalar.andi v73 c1_i32_43
  let c512_i32 : BitVec 32 := 512#32
  let v76 : BitVec 32 := Scalar.muli v74 c512_i32
  let v77 : BitVec 32 := Scalar.addi c0_i32_45 v76
  let c2_i32_63 : BitVec 32 := 2#32
  let v101 : BitVec 32 := Scalar.shrui v2 c2_i32_63
  let c1_i32_64 : BitVec 32 := 1#32
  let v102 : BitVec 32 := Scalar.andi v101 c1_i32_64
  let c256_i32 : BitVec 32 := 256#32
  let v104 : BitVec 32 := Scalar.muli v102 c256_i32
  let v105 : BitVec 32 := Scalar.addi v77 v104
  let c1_i32_82 : BitVec 32 := 1#32
  let v129 : BitVec 32 := Scalar.shrui v2 c1_i32_82
  let c1_i32_83 : BitVec 32 := 1#32
  let v130 : BitVec 32 := Scalar.andi v129 c1_i32_83
  let c128_i32 : BitVec 32 := 128#32
  let v132 : BitVec 32 := Scalar.muli v130 c128_i32
  let v133 : BitVec 32 := Scalar.addi v105 v132
  let c3_i32_101 : BitVec 32 := 3#32
  let v157 : BitVec 32 := Scalar.shrui v2 c3_i32_101
  let c1_i32_102 : BitVec 32 := 1#32
  let v158 : BitVec 32 := Scalar.andi v157 c1_i32_102
  let c64_i32 : BitVec 32 := 64#32
  let v160 : BitVec 32 := Scalar.muli v158 c64_i32
  let v161 : BitVec 32 := Scalar.addi v133 v160
  let v177 : Index := Scalar.indexCast v161
  let c0_116 : Index := 0#32
  ![v177.toNat, 0]
def k0_off9 (d0 : Dev nD) : Fin 2 → Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_42 : BitVec 32 := 0#32
  let v73 : BitVec 32 := Scalar.shrui v2 c0_i32_42
  let c1_i32_43 : BitVec 32 := 1#32
  let v74 : BitVec 32 := Scalar.andi v73 c1_i32_43
  let c512_i32 : BitVec 32 := 512#32
  let v76 : BitVec 32 := Scalar.muli v74 c512_i32
  let v77 : BitVec 32 := Scalar.addi c0_i32_45 v76
  let c2_i32_63 : BitVec 32 := 2#32
  let v101 : BitVec 32 := Scalar.shrui v2 c2_i32_63
  let c1_i32_64 : BitVec 32 := 1#32
  let v102 : BitVec 32 := Scalar.andi v101 c1_i32_64
  let c256_i32 : BitVec 32 := 256#32
  let v104 : BitVec 32 := Scalar.muli v102 c256_i32
  let v105 : BitVec 32 := Scalar.addi v77 v104
  let c1_i32_82 : BitVec 32 := 1#32
  let v129 : BitVec 32 := Scalar.shrui v2 c1_i32_82
  let c1_i32_83 : BitVec 32 := 1#32
  let v130 : BitVec 32 := Scalar.andi v129 c1_i32_83
  let c128_i32 : BitVec 32 := 128#32
  let v132 : BitVec 32 := Scalar.muli v130 c128_i32
  let v133 : BitVec 32 := Scalar.addi v105 v132
  let c3_i32_101 : BitVec 32 := 3#32
  let v157 : BitVec 32 := Scalar.shrui v2 c3_i32_101
  let c1_i32_102 : BitVec 32 := 1#32
  let v158 : BitVec 32 := Scalar.andi v157 c1_i32_102
  let c64_i32 : BitVec 32 := 64#32
  let v160 : BitVec 32 := Scalar.muli v158 c64_i32
  let v161 : BitVec 32 := Scalar.addi v133 v160
  let c0_i32_127 : BitVec 32 := 0#32
  ![v161.toNat, 0]
def k0_dev9 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_122 : BitVec 32 := 8#32
  let v187 : BitVec 32 := Scalar.xori v2 c8_i32_122
  let c1_i32_125 : BitVec 32 := 1#32
  let v188 : BitVec 32 := Scalar.muli v187 c1_i32_125
  let v189 : BitVec 32 := Scalar.addi c0_i32_126 v188
  v189.toNat
def k0_off10 (d0 : Dev nD) : Fin 2 → Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_42 : BitVec 32 := 0#32
  let v73 : BitVec 32 := Scalar.shrui v2 c0_i32_42
  let c1_i32_43 : BitVec 32 := 1#32
  let v74 : BitVec 32 := Scalar.andi v73 c1_i32_43
  let c512_i32 : BitVec 32 := 512#32
  let v76 : BitVec 32 := Scalar.muli v74 c512_i32
  let v77 : BitVec 32 := Scalar.addi c0_i32_45 v76
  let c2_i32_63 : BitVec 32 := 2#32
  let v101 : BitVec 32 := Scalar.shrui v2 c2_i32_63
  let c1_i32_64 : BitVec 32 := 1#32
  let v102 : BitVec 32 := Scalar.andi v101 c1_i32_64
  let c256_i32 : BitVec 32 := 256#32
  let v104 : BitVec 32 := Scalar.muli v102 c256_i32
  let v105 : BitVec 32 := Scalar.addi v77 v104
  let c1_i32_82 : BitVec 32 := 1#32
  let v129 : BitVec 32 := Scalar.shrui v2 c1_i32_82
  let c1_i32_83 : BitVec 32 := 1#32
  let v130 : BitVec 32 := Scalar.andi v129 c1_i32_83
  let c128_i32 : BitVec 32 := 128#32
  let v132 : BitVec 32 := Scalar.muli v130 c128_i32
  let v133 : BitVec 32 := Scalar.addi v105 v132
  let c3_i32_101 : BitVec 32 := 3#32
  let v157 : BitVec 32 := Scalar.shrui v2 c3_i32_101
  let c1_i32_102 : BitVec 32 := 1#32
  let v158 : BitVec 32 := Scalar.andi v157 c1_i32_102
  let c64_i32 : BitVec 32 := 64#32
  let v160 : BitVec 32 := Scalar.muli v158 c64_i32
  let v161 : BitVec 32 := Scalar.addi v133 v160
  let c3_i32_120 : BitVec 32 := 3#32
  let v185 : BitVec 32 := Scalar.shrui v2 c3_i32_120
  let c1_i32_121 : BitVec 32 := 1#32
  let v186 : BitVec 32 := Scalar.andi v185 c1_i32_121
  let c64_i32_135 : BitVec 32 := 64#32
  let v202 : BitVec 32 := Scalar.muli v186 c64_i32_135
  let v203 : BitVec 32 := Scalar.subi v161 v202
  let c0_i32_142 : BitVec 32 := 0#32
  ![v203.toNat, 0]
def k0_dev10 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_138 : BitVec 32 := 2#32
  let v206 : BitVec 32 := Scalar.xori v2 c2_i32_138
  let c1_i32_140 : BitVec 32 := 1#32
  let v207 : BitVec 32 := Scalar.muli v206 c1_i32_140
  let v208 : BitVec 32 := Scalar.addi c0_i32_141 v207
  v208.toNat
def k0_off11 (d0 : Dev nD) : Fin 2 → Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_42 : BitVec 32 := 0#32
  let v73 : BitVec 32 := Scalar.shrui v2 c0_i32_42
  let c1_i32_43 : BitVec 32 := 1#32
  let v74 : BitVec 32 := Scalar.andi v73 c1_i32_43
  let c512_i32 : BitVec 32 := 512#32
  let v76 : BitVec 32 := Scalar.muli v74 c512_i32
  let v77 : BitVec 32 := Scalar.addi c0_i32_45 v76
  let c2_i32_63 : BitVec 32 := 2#32
  let v101 : BitVec 32 := Scalar.shrui v2 c2_i32_63
  let c1_i32_64 : BitVec 32 := 1#32
  let v102 : BitVec 32 := Scalar.andi v101 c1_i32_64
  let c256_i32 : BitVec 32 := 256#32
  let v104 : BitVec 32 := Scalar.muli v102 c256_i32
  let v105 : BitVec 32 := Scalar.addi v77 v104
  let c1_i32_82 : BitVec 32 := 1#32
  let v129 : BitVec 32 := Scalar.shrui v2 c1_i32_82
  let c1_i32_83 : BitVec 32 := 1#32
  let v130 : BitVec 32 := Scalar.andi v129 c1_i32_83
  let c128_i32 : BitVec 32 := 128#32
  let v132 : BitVec 32 := Scalar.muli v130 c128_i32
  let v133 : BitVec 32 := Scalar.addi v105 v132
  let c3_i32_101 : BitVec 32 := 3#32
  let v157 : BitVec 32 := Scalar.shrui v2 c3_i32_101
  let c1_i32_102 : BitVec 32 := 1#32
  let v158 : BitVec 32 := Scalar.andi v157 c1_i32_102
  let c64_i32 : BitVec 32 := 64#32
  let v160 : BitVec 32 := Scalar.muli v158 c64_i32
  let v161 : BitVec 32 := Scalar.addi v133 v160
  let c3_i32_120 : BitVec 32 := 3#32
  let v185 : BitVec 32 := Scalar.shrui v2 c3_i32_120
  let c1_i32_121 : BitVec 32 := 1#32
  let v186 : BitVec 32 := Scalar.andi v185 c1_i32_121
  let c64_i32_135 : BitVec 32 := 64#32
  let v202 : BitVec 32 := Scalar.muli v186 c64_i32_135
  let v203 : BitVec 32 := Scalar.subi v161 v202
  let c1_i32_136 : BitVec 32 := 1#32
  let v204 : BitVec 32 := Scalar.shrui v2 c1_i32_136
  let c1_i32_137 : BitVec 32 := 1#32
  let v205 : BitVec 32 := Scalar.andi v204 c1_i32_137
  let c128_i32_150 : BitVec 32 := 128#32
  let v221 : BitVec 32 := Scalar.muli v205 c128_i32_150
  let v222 : BitVec 32 := Scalar.subi v203 v221
  let c0_i32_157 : BitVec 32 := 0#32
  ![v222.toNat, 0]
def k0_dev11 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_153 : BitVec 32 := 4#32
  let v225 : BitVec 32 := Scalar.xori v2 c4_i32_153
  let c1_i32_155 : BitVec 32 := 1#32
  let v226 : BitVec 32 := Scalar.muli v225 c1_i32_155
  let v227 : BitVec 32 := Scalar.addi c0_i32_156 v226
  v227.toNat
def k0_off12 (d0 : Dev nD) : Fin 2 → Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_42 : BitVec 32 := 0#32
  let v73 : BitVec 32 := Scalar.shrui v2 c0_i32_42
  let c1_i32_43 : BitVec 32 := 1#32
  let v74 : BitVec 32 := Scalar.andi v73 c1_i32_43
  let c512_i32 : BitVec 32 := 512#32
  let v76 : BitVec 32 := Scalar.muli v74 c512_i32
  let v77 : BitVec 32 := Scalar.addi c0_i32_45 v76
  let c2_i32_63 : BitVec 32 := 2#32
  let v101 : BitVec 32 := Scalar.shrui v2 c2_i32_63
  let c1_i32_64 : BitVec 32 := 1#32
  let v102 : BitVec 32 := Scalar.andi v101 c1_i32_64
  let c256_i32 : BitVec 32 := 256#32
  let v104 : BitVec 32 := Scalar.muli v102 c256_i32
  let v105 : BitVec 32 := Scalar.addi v77 v104
  let c1_i32_82 : BitVec 32 := 1#32
  let v129 : BitVec 32 := Scalar.shrui v2 c1_i32_82
  let c1_i32_83 : BitVec 32 := 1#32
  let v130 : BitVec 32 := Scalar.andi v129 c1_i32_83
  let c128_i32 : BitVec 32 := 128#32
  let v132 : BitVec 32 := Scalar.muli v130 c128_i32
  let v133 : BitVec 32 := Scalar.addi v105 v132
  let c3_i32_101 : BitVec 32 := 3#32
  let v157 : BitVec 32 := Scalar.shrui v2 c3_i32_101
  let c1_i32_102 : BitVec 32 := 1#32
  let v158 : BitVec 32 := Scalar.andi v157 c1_i32_102
  let c64_i32 : BitVec 32 := 64#32
  let v160 : BitVec 32 := Scalar.muli v158 c64_i32
  let v161 : BitVec 32 := Scalar.addi v133 v160
  let c3_i32_120 : BitVec 32 := 3#32
  let v185 : BitVec 32 := Scalar.shrui v2 c3_i32_120
  let c1_i32_121 : BitVec 32 := 1#32
  let v186 : BitVec 32 := Scalar.andi v185 c1_i32_121
  let c64_i32_135 : BitVec 32 := 64#32
  let v202 : BitVec 32 := Scalar.muli v186 c64_i32_135
  let v203 : BitVec 32 := Scalar.subi v161 v202
  let c1_i32_136 : BitVec 32 := 1#32
  let v204 : BitVec 32 := Scalar.shrui v2 c1_i32_136
  let c1_i32_137 : BitVec 32 := 1#32
  let v205 : BitVec 32 := Scalar.andi v204 c1_i32_137
  let c128_i32_150 : BitVec 32 := 128#32
  let v221 : BitVec 32 := Scalar.muli v205 c128_i32_150
  let v222 : BitVec 32 := Scalar.subi v203 v221
  let c2_i32_151 : BitVec 32 := 2#32
  let v223 : BitVec 32 := Scalar.shrui v2 c2_i32_151
  let c1_i32_152 : BitVec 32 := 1#32
  let v224 : BitVec 32 := Scalar.andi v223 c1_i32_152
  let c256_i32_165 : BitVec 32 := 256#32
  let v240 : BitVec 32 := Scalar.muli v224 c256_i32_165
  let v241 : BitVec 32 := Scalar.subi v222 v240
  let c0_i32_170 : BitVec 32 := 0#32
  ![v241.toNat, 0]
def k0_dev12 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_166 : BitVec 32 := 1#32
  let v242 : BitVec 32 := Scalar.xori v2 c1_i32_166
  let c1_i32_168 : BitVec 32 := 1#32
  let v243 : BitVec 32 := Scalar.muli v242 c1_i32_168
  let v244 : BitVec 32 := Scalar.addi c0_i32_169 v243
  v244.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S512x64 : Shape := ⟨2, ![512, 64]⟩
abbrev S1024x1 : Shape := ⟨2, ![1024, 1]⟩
abbrev S64x512x1024 : Shape := ⟨3, ![64, 512, 1024]⟩
abbrev S1024 : Shape := ⟨1, ![1024]⟩
abbrev S1024x512x1024 : Shape := ⟨3, ![1024, 512, 1024]⟩
abbrev S1024x1024 : Shape := ⟨2, ![1024, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x64, .bf16⟩
  | .hbm, ⟨2, _⟩ => ⟨S1024x1, .i32⟩
  | .hbm, ⟨3, _⟩ => ⟨S64x512x1024, .bf16⟩
  | .hbm, ⟨4, _⟩ => ⟨S1024, .i32⟩
  | .hbm, ⟨5, _⟩ => ⟨S1024x1, .i32⟩
  | .hbm, ⟨6, _⟩ => ⟨S1024x512x1024, .bf16⟩
  | .hbm, ⟨7, _⟩ => ⟨S1024x512, .f32⟩
  | .hbm, ⟨8, _⟩ => ⟨S1024x512x1024, .f32⟩
  | .hbm, ⟨9, _⟩ => ⟨S1024x1024, .f32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i1⟩
  | .hbm, ⟨17, _⟩ => ⟨S1024x1, .i1⟩
  | .hbm, ⟨18, _⟩ => ⟨S_, .f32⟩
  | .hbm, ⟨19, _⟩ => ⟨S_, .f32⟩
  | .hbm, ⟨20, _⟩ => ⟨S1024x1024, .i1⟩
  | .hbm, ⟨21, _⟩ => ⟨S1024x1024, .f32⟩
  | .hbm, ⟨22, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Proof.KernelIdealMesh.lean ====
/-
The mesh of the recursive-halving reduction: who a device's partner is at each stage, which rows of the
1024 × 1024 partial it keeps there, what the partial holds, and which rows the kernel's slices are.

A device's number has four bits. Stage `k` of the reduction pairs the devices that differ in one bit (bits
0, 2, 1, 3 in stage order), and cuts the rows a pair still holds in two halves, one for each of the pair.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Writes

@[expose] public section

set_option maxRecDepth 16384

noncomputable section

namespace Cert.KernelIdeal.Dispatch

open Cert.KernelIdeal Cert.KernelIdeal.Gen
open Idealize.ShloMosaic
open Idealize.ShloMosaic.TcCoe
open Idealize.SL.Sem

variable {F : FTy → Type} [FloatOps F]

/-! ## Partners and rows -/

/-- The bit stage `k` pairs devices along: 0, 2, 1, 3 in stage order (as the number it weighs). -/
def wt : Fin 4 → ℕ := ![1, 4, 2, 8]

/-- The bit of stage `k` in device `c`'s number. -/
def bit (k : Fin 4) (c : Dev nD) : ℕ := c.val / wt k % 2

set_option backward.proofsInPublic true in
/-- Device `c`'s partner at stage `k`: the device whose number differs from `c`'s in that stage's bit. -/
def p (k : Fin 4) (c : Dev nD) : Dev nD :=
  ⟨(c.val + (1 - bit k c) * wt k - bit k c * wt k) % 16, Nat.mod_lt _ (by decide)⟩

theorem p_p (k : Fin 4) (c : Dev nD) : p k (p k c) = c := by revert k c; decide

/-- Being a partner is mutual: a permutation of the devices, its own inverse. -/
def pe (k : Fin 4) : Dev nD ≃ Dev nD := ⟨p k, p k, p_p k, p_p k⟩

/-- The first row of what device `c` holds before stage `k` (after stage `k - 1`). -/
def keep (k : ℕ) (c : Dev nD) : ℕ :=
  match k with
  | 0 => 0
  | 1 => 512 * bit 0 c
  | 2 => 512 * bit 0 c + 256 * bit 1 c
  | 3 => 512 * bit 0 c + 256 * bit 1 c + 128 * bit 2 c
  | _ => 512 * bit 0 c + 256 * bit 1 c + 128 * bit 2 c + 64 * bit 3 c

/-- How many rows a device holds before stage `k`. -/
def half (k : ℕ) : ℕ := 1024 / 2 ^ k

/-- An index of the partial. -/
abbrev PIdx : Type := S1024x1024.Idx

/-- The elements of the rows `[a, a + n)`. -/
def rows (a n : ℕ) : Finset PIdx := Finset.univ.filter fun i => a ≤ (i 0).val ∧ (i 0).val < a + n

theorem mem_rows {a n : ℕ} {i : PIdx} : i ∈ rows a n ↔ a ≤ (i 0).val ∧ (i 0).val < a + n := by
  unfold rows; rw [Finset.mem_filter]; exact ⟨fun h => h.2, fun h => ⟨Finset.mem_univ _, h⟩⟩

/-- What device `c` holds before stage `k`. -/
def part (k : ℕ) (c : Dev nD) : Finset PIdx := rows (keep k c) (half k)

theorem part_zero (c : Dev nD) : part 0 c = Finset.univ := by
  refine Finset.eq_univ_of_forall fun i => mem_rows.mpr ?_
  have h : (i 0).val < 1024 := (i 0).isLt
  have : half 0 = 1024 := by decide
  show 0 ≤ (i 0).val ∧ (i 0).val < 0 + half 0
  omega

/-- Of a pair's two halves, one starts where the pair's rows do and the other right after it. -/
theorem keep_halves (k : Fin 4) (c : Dev nD) :
    (keep (k + 1) c = keep k c ∧ keep (k + 1) (p k c) = keep k c + half (k + 1))
      ∨ (keep (k + 1) (p k c) = keep k c ∧ keep (k + 1) c = keep k c + half (k + 1)) := by revert k c; decide

theorem half_halves (k : Fin 4) : half k = half (k + 1) + half (k + 1) := by revert k; decide

/-- What a pair holds before a stage is the two halves its devices hold after it. -/
theorem part_split (k : Fin 4) (c : Dev nD) : part k c = part (k + 1) c ∪ part (k + 1) (p k c) := by
  ext i
  rw [Finset.mem_union]; unfold part; rw [mem_rows, mem_rows, mem_rows]
  have h1 := keep_halves k c
  have h2 := half_halves k
  omega

theorem part_disjoint (k : Fin 4) (c : Dev nD) : Disjoint (part (k + 1) c) (part (k + 1) (p k c)) := by
  rw [Finset.disjoint_left]; unfold part
  intro i hi hj
  rw [mem_rows] at hi hj
  have h1 := keep_halves k c
  omega

/-! ## Where the kernel's slices lie -/

/-- The partial as a memref. -/
abbrev pM : Memref sig .tc .vmem S1024x1024 .bf16 := Memref.whole cc0_scratch0

theorem off_keep1 (c : Dev nD) : k0_off2 c = ![keep 1 c, 0] := by revert c; decide
theorem off_keep2 (c : Dev nD) : k0_off4 c = ![keep 2 c, 0] := by revert c; decide
theorem off_keep3 (c : Dev nD) : k0_off6 c = ![keep 3 c, 0] := by revert c; decide
theorem off_keep4 (c : Dev nD) : k0_off8 c = ![keep 4 c, 0] := by revert c; decide
theorem off_send1 (c : Dev nD) : k0_off1 c = k0_off2 (p 0 c) := by revert c; decide
theorem off_send2 (c : Dev nD) : k0_off3 c = k0_off4 (p 1 c) := by revert c; decide
theorem off_send3 (c : Dev nD) : k0_off5 c = k0_off6 (p 2 c) := by revert c; decide
theorem off_send4 (c : Dev nD) : k0_off7 c = k0_off8 (p 3 c) := by revert c; decide
theorem off_back4 (c : Dev nD) : k0_off9 c = k0_off8 c := by revert c; decide
theorem off_back3 (c : Dev nD) : k0_off10 c = k0_off6 c := by revert c; decide
theorem off_back2 (c : Dev nD) : k0_off11 c = k0_off4 c := by revert c; decide
theorem off_back1 (c : Dev nD) : k0_off12 c = k0_off2 c := by revert c; decide

theorem dev1_eq (c : Dev nD) : (⟨k0_dev1 c, k0_dev1_lt c⟩ : Dev nD) = p 0 c := by revert c; decide
theorem dev2_eq (c : Dev nD) : (⟨k0_dev2 c, k0_dev2_lt c⟩ : Dev nD) = p 2 c := by revert c; decide
theorem dev3_eq (c : Dev nD) : (⟨k0_dev3 c, k0_dev3_lt c⟩ : Dev nD) = p 1 c := by revert c; decide
theorem dev4_eq (c : Dev nD) : (⟨k0_dev4 c, k0_dev4_lt c⟩ : Dev nD) = p 3 c := by revert c; decide
theorem dev5_eq (c : Dev nD) : (⟨k0_dev5 c, k0_dev5_lt c⟩ : Dev nD) = p 0 c := by revert c; decide
theorem dev6_eq (c : Dev nD) : (⟨k0_dev6 c, k0_dev6_lt c⟩ : Dev nD) = p 1 c := by revert c; decide
theorem dev7_eq (c : Dev nD) : (⟨k0_dev7 c, k0_dev7_lt c⟩ : Dev nD) = p 2 c := by revert c; decide
theorem dev8_eq (c : Dev nD) : (⟨k0_dev8 c, k0_dev8_lt c⟩ : Dev nD) = p 3 c := by revert c; decide
theorem dev9_eq (c : Dev nD) : (⟨k0_dev9 c, k0_dev9_lt c⟩ : Dev nD) = p 3 c := by revert c; decide
theorem dev10_eq (c : Dev nD) : (⟨k0_dev10 c, k0_dev10_lt c⟩ : Dev nD) = p 2 c := by revert c; decide
theorem dev11_eq (c : Dev nD) : (⟨k0_dev11 c, k0_dev11_lt c⟩ : Dev nD) = p 1 c := by revert c; decide
theorem dev12_eq (c : Dev nD) : (⟨k0_dev12 c, k0_dev12_lt c⟩ : Dev nD) = p 0 c := by revert c; decide

/-- A full-width slice of the partial is its rows. -/
theorem slice_set (off size : Fin 2 → ℕ) (inb : ∀ a, off a + size a ≤ S1024x1024.size a) (a n : ℕ)
    (ho : off = ![a, 0]) (hs : size = ![n, 1024]) :
    (pM.slice (Rect.unit (s := S1024x1024) off size inb) (fun _ => rfl)).view.set = rows a n := by
  subst ho hs
  show ((View.whole cc0_scratch0).slice _).set = _
  rw [View.set_slice_whole]
  ext i
  rw [Rect.mem_set_unit, mem_rows]
  refine ⟨fun h => h 0, fun h b => ?_⟩
  have h1 : (i 1).val < 1024 := (i 1).isLt
  match b with
  | 0 => exact h
  | 1 => exact ⟨Nat.zero_le _, by show (i 1).val < 0 + 1024; omega⟩

/-! ## What the partial holds -/

/-- The partial of stage `k` on each device: its own product at first, then the element-wise sum of the pair's. -/
def T (A : Dev nD → FVec F S1024x1024 .bf16) : ℕ → Dev nD → FVec F S1024x1024 .bf16
  | 0, c => A c
  | k + 1, c => addf (T A k c) (T A k (p (Fin.ofNat 4 k) c))

theorem T_succ (A : Dev nD → FVec F S1024x1024 .bf16) (k : Fin 4) (c : Dev nD) :
    T A (k + 1) c = addf (T A k c) (T A k (p k c)) := by
  show addf (T A k c) (T A k (p (Fin.ofNat 4 k) c)) = _
  rw [show Fin.ofNat 4 k.val = k from Fin.ext (Nat.mod_eq_of_lt k.isLt)]

/-- The device that ends the reduction with the `n`-th block of 64 rows. -/
def own (n : Fin 16) : Dev nD := ⟨(n.val / 8 + 2 * (n.val / 2 % 2) + 4 * (n.val / 4 % 2) + 8 * (n.val % 2)) % 16, Nat.mod_lt _ (by decide)⟩

theorem own_keep (c : Dev nD) : keep 4 c % 64 = 0 ∧ ∃ h : keep 4 c / 64 < 16, own ⟨keep 4 c / 64, h⟩ = c := by revert c; decide

/-- The block of 64 rows an index lies in. -/
def blk (i : PIdx) : Fin 16 := ⟨(i 0).val / 64, by have h : (i 0).val < 1024 := (i 0).isLt; omega⟩

/-- The whole reduced result: each block of rows from the device that reduced it. -/
def W (A : Dev nD → FVec F S1024x1024 .bf16) : FVec F S1024x1024 .bf16 := fun i => T A 4 (own (blk i)) i

/-- On the rows a device ends the reduction with, its partial is the result. -/
theorem T_eq_W (A : Dev nD → FVec F S1024x1024 .bf16) (c : Dev nD) (i : PIdx) (hi : i ∈ part 4 c) : T A 4 c i = W A i := by
  obtain ⟨h0, h1, h2⟩ := own_keep c
  have hi' := mem_rows.mp hi
  have hh : half 4 = 64 := by decide
  have hb : blk i = ⟨keep 4 c / 64, h1⟩ := Fin.ext (by show (i 0).val / 64 = keep 4 c / 64; omega)
  unfold W
  rw [hb, h2]

/-- Adding a landed half to the kept rows in place: on those rows the partial then holds the sum. -/
theorem add_at (off size : Fin 2 → ℕ) (inb : ∀ a, off a + size a ≤ S1024x1024.size a) (f g : FVec F S1024x1024 .bf16)
    (i : PIdx) (hi : i ∈ (pM.slice (Rect.unit (s := S1024x1024) off size inb) (fun _ => rfl)).view.set) :
    (pM.access (Rect.unit (s := S1024x1024) off size inb)).write (Elt F) f
        (fun x => FloatOps.addf (pM.view.readAt (Elt F) (Rect.unit (s := S1024x1024) off size inb).toLoadRect f x)
          ((pM.slice (Rect.unit (s := S1024x1024) off size inb) (fun _ => rfl)).view.read (Elt F) g x)) Finset.univ i
      = addf f g i := by
  obtain ⟨x, -, rfl⟩ := Finset.mem_map.mp hi
  exact View.write_emb_of_mem _ _ (Finset.mem_univ _)

/-- Copying a slice of a buffer holding `g` over the same slice of another leaves `g` on the slice. -/
theorem copy_at (off size : Fin 2 → ℕ) (inb : ∀ a, off a + size a ≤ S1024x1024.size a) (f g : FVec F S1024x1024 .bf16)
    (i : PIdx) (hi : i ∈ (pM.slice (Rect.unit (s := S1024x1024) off size inb) (fun _ => rfl)).view.set) :
    (pM.slice (Rect.unit (s := S1024x1024) off size inb) (fun _ => rfl)).view.write (Elt F) f
        ((pM.slice (Rect.unit (s := S1024x1024) off size inb) (fun _ => rfl)).view.read (Elt F) g) Finset.univ i
      = g i := by
  obtain ⟨x, -, rfl⟩ := Finset.mem_map.mp hi
  exact View.write_emb_of_mem _ _ (Finset.mem_univ _)

end Cert.KernelIdeal.Dispatch

end
-- ==== Proof.KernelIdealSchedule.lean ====
/-
The protocol of the kernel's sixteen devices as one round of duties per semaphore cell: what each arrival on a
cell hands its owner, what every device owes at launch, and the order of levels that makes the waits end.

A device's barrier cell has four arrivals, one from each stage's partner, which hands over its landing buffer of
that stage. Receive cell `k < 4` is the reduction's stage `k`: the landed half of the partner's partial, and with
it the rows the partner sent from, which are the ones written back to later. Receive cells `4..7` are the gathering
stages in reverse: rows of the final result. Send cells of the reduction hand nothing back; those of the gathering
hand back the share of the rows lent to the copy.
-/
module

public import proofs.«01_k».proof.Proof.KernelIdealMesh

@[expose] public section

set_option maxRecDepth 16384

noncomputable section

namespace Cert.KernelIdeal.Dispatch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (four duties a cell) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

/-- The stage whose rows and partner transfer `i` uses: 0, 1, 2, 3 in the reduction, then back 3, 2, 1, 0. -/
def st (i : Fin 8) : Fin 4 := if h : i.val < 4 then ⟨i.val, h⟩ else ⟨7 - i.val, by omega⟩

/-- The barrier semaphore. -/
abbrev barS : Sem sig := (SemArray.scalar (sig.barrier 0 rfl) : Sems sig S_).sem
/-- The semaphore on which the sender of transfer `i` learns that its source is free. -/
def sendS (i : Fin 8) : DmaSem sig := ⟨4 + i.val, Nat.lt_trans (Nat.add_lt_add_left i.isLt 4) (by decide)⟩
/-- The semaphore on which the receiver of transfer `i` learns that it landed. -/
def recvS (i : Fin 8) : DmaSem sig := ⟨12 + i.val, Nat.add_lt_add_left i.isLt 12⟩

abbrev barCell (c : Dev nD) : GSem nD τ sig := ((c : Thread nD τ), .reg barS)
abbrev sendCell (i : Fin 8) (c : Dev nD) : GSem nD τ sig := ((c : Thread nD τ), .dma (sendS i))
abbrev recvCell (i : Fin 8) (c : Dev nD) : GSem nD τ sig := ((c : Thread nD τ), .dma (recvS i))

/-- The extents of what stage `k` moves: half of the rows a pair still holds. -/
abbrev sz (k : Fin 4) : Fin 2 → ℕ := match k with
  | 0 => S512x1024.size | 1 => S256x1024.size | 2 => S128x1024.size | 3 => S64x1024.size

/-- The landing buffer of stage `k`. -/
abbrev dM (k : Fin 4) : Memref sig .tc .vmem ⟨2, sz k⟩ .bf16 := match k with
  | 0 => Memref.whole cc0_scratch1 | 1 => Memref.whole cc0_scratch2 | 2 => Memref.whole cc0_scratch3 | 3 => Memref.whole cc0_scratch4

/-- Where the rows device `c` keeps after stage `k` start. -/
abbrev off (k : Fin 4) (c : Dev nD) : Fin 2 → ℕ := ![keep (k + 1) c, 0]

theorem sz_eq (k : Fin 4) : sz k = ![half (k + 1), 1024] := by revert k; decide
theorem inb (k : Fin 4) (c : Dev nD) : ∀ a, off k c a + sz k a ≤ S1024x1024.size a := by revert k c; decide

/-- Those rows as a slice of the partial, -/
abbrev sl (k : Fin 4) (c : Dev nD) : Memref sig .tc .vmem ⟨2, sz k⟩ .bf16 :=
  pM.slice (Rect.unit (s := S1024x1024) (off k c) (sz k) (inb k c)) (fun _ => rfl)

/-- which is exactly their elements. -/
theorem sl_set (k : Fin 4) (c : Dev nD) : (sl k c).view.set = part (k + 1) c := slice_set _ _ _ _ _ rfl (sz_eq k)

/-- The amount one transfer of stage `k`'s size adds to a semaphore. -/
def cr (k : Fin 4) : ℕ := RefSig.tileCredit ⟨2, sz k⟩ .bf16

/-- It is a matter of the shape alone, not of the buffer. -/
theorem credit_eq (k : Fin 4) (v : Memref sig .tc .vmem ⟨2, sz k⟩ .bf16) : v.view.dmaCredit = cr k := rfl

theorem cr_pos (k : Fin 4) : 0 < cr k := RefSig.tileCredit_pos _ _ (by revert k; decide)

/-! ## Contents -/

/-- What the staging buffers hold on device `c`: its tokens, the tokens' experts, its four experts' weights. -/
def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg2))
def estg (c : Dev nD) : (cc0_stg2_0 : Ref sig .tc).ty.Contents (Elt F) :=
  (win0_2.blk (0 : Fin 1)).view.read (Elt F) ((s₀ m ρ).mem ((c : Thread nD τ).loc main_arg3))

/-- One expert's weights out of a device's four. -/
def expert (e : (cc0_stg2_0 : Ref sig .tc).ty.Contents (Elt F)) (j : ℕ)
    (inb : ∀ a, (![j, 0, 0] : Fin 3 → ℕ) a + S1x512x1024.size a ≤ S4x512x1024.size a) : Vec F S1x512x1024 .bf16 :=
  (Memref.whole cc0_stg2_0 : Memref sig .tc .vmem S4x512x1024 .bf16).view.readAt (Elt F)
    (Rect.unit (s := S4x512x1024) ![j, 0, 0] S1x512x1024.size inb).toLoadRect e

/-- Device `c`'s own partial of given tokens, experts and weights. -/
def partialOf (c : Dev nD) (x : Vec F S1024x512 .bf16) (r : Vec F S1024x1 .i32)
    (e : (cc0_stg2_0 : Ref sig .tc).ty.Contents (Elt F)) : FVec F S1024x1024 .bf16 :=
  k0_pay7
    (k0_pay5 (Scalar.remsi (Scalar.divsi (Dev.word c) 1#32) 16#32) (k0_pay1 x) (k0_pay2 r) (k0_pay3 (F := F)) (Scalar.ofBits .bf16 0x0000#16)
      (k0_pay4 (F := F) c r) (expert e 0 inb_S4x512x1024_S1x512x1024_0_0_0) (expert e 1 inb_S4x512x1024_S1x512x1024_1_0_0)
      (expert e 2 inb_S4x512x1024_S1x512x1024_2_0_0))
    (k0_pay6 (Scalar.remsi (Scalar.divsi (Dev.word c) 1#32) 16#32) (k0_pay1 x) (k0_pay2 r))
    (expert e 3 inb_S4x512x1024_S1x512x1024_3_0_0)

/-- Device `c`'s own partial at this launch. -/
def A (c : Dev nD) : FVec F S1024x1024 .bf16 := partialOf c (xstg m ρ c) (rstg m ρ c) (estg m ρ c)

/-- The partial of stage `k` at this launch. -/
def Tm (k : ℕ) (c : Dev nD) : FVec F S1024x1024 .bf16 := T (A m ρ) k c
/-- The reduced result at this launch. -/
def Wm : FVec F S1024x1024 .bf16 := W (A m ρ)

theorem Tm_succ (k : Fin 4) (c : Dev nD) : Tm m ρ (k + 1) c = addf (Tm m ρ k c) (Tm m ρ k (p k c)) := T_succ _ k c

/-- What lands at stage `k` on device `c`: the rows `c` keeps, as its partner's partial has them. -/
def landed (k : Fin 4) (c : Dev nD) : Vec F ⟨2, sz k⟩ .bf16 := (sl k c).view.read (Elt F) (Tm m ρ k (p k c))

/-! ## Shares

Before gathering stage `j` a device holds its rows at share `sh j`; it lends one half of that to the copy
and keeps the other. -/

def sh : ℕ → PosShare TreeShare
  | 0 => fullShare
  | n + 1 => (sh n).right
def lend (n : ℕ) : PosShare TreeShare := (sh n).left

/-- Elements `S` of device `c`'s partial at share `q`, holding `f`. -/
def Hold (c : Dev nD) (S : Finset PIdx) (q : PosShare TreeShare) (f : FVec F S1024x1024 .bf16) : sProp 𝕄 :=
  ((c : Thread nD τ).loc cc0_scratch0) ↦[S]{q} f

/-- Stage `k`'s landing buffer on device `c`, holding `f`; -/
def bufPts (k : Fin 4) (c : Dev nD) (f : Buf (Elt F) ((dM k).view.loc (c : Thread nD τ))) : sProp 𝕄 :=
  (dM k).view.loc (c : Thread nD τ) ↦[(dM k).view.set]{fullShare} f
/-- holding anything; -/
def bufAny (k : Fin 4) (c : Dev nD) : sProp 𝕄 := iprop(∃ f, bufPts (F := F) k c f)
/-- holding what reads as `v`. -/
def bufHas (k : Fin 4) (c : Dev nD) (v : Vec F ⟨2, sz k⟩ .bf16) : sProp 𝕄 :=
  iprop(∃ f, ⌜(dM k).view.read (Elt F) f = v⌝ ∗ bufPts (F := F) k c f)

omit [FloatOps F] in
instance Hold_storable (c : Dev nD) (S q f) : BI.Storable (upEmb : UEmb _ 𝕄) (Hold (F := F) c S q f) := by unfold Hold; infer_instance
omit [FloatOps F] in
instance bufPts_storable (k : Fin 4) (c : Dev nD) (f) : BI.Storable (upEmb : UEmb _ 𝕄) (bufPts (F := F) k c f) := by unfold bufPts; infer_instance
omit [FloatOps F] in
instance bufAny_storable (k : Fin 4) (c : Dev nD) : BI.Storable (upEmb : UEmb _ 𝕄) (bufAny (F := F) k c) := by unfold bufAny; infer_instance
omit [FloatOps F] in
instance bufHas_storable (k : Fin 4) (c : Dev nD) (v) : BI.Storable (upEmb : UEmb _ 𝕄) (bufHas (F := F) k c v) := by unfold bufHas; infer_instance

omit [FloatOps F] in
/-- One share lent, the rest kept. -/
theorem Hold_lend (c : Dev nD) (S n) (f : FVec F S1024x1024 .bf16) : Hold c S (sh n) f ⊣⊢ iprop(Hold c S (lend n) f ∗ Hold c S (sh (n + 1)) f) := by
  unfold Hold
  exact pointsTo_share (PosShare.mem_left_op_right (sh n))

omit [FloatOps F] in
theorem Hold_union (c : Dev nD) {S S' : Finset PIdx} (h : Disjoint S S') (q) (f : FVec F S1024x1024 .bf16) :
    Hold c (S ∪ S') q f ⊣⊢ iprop(Hold c S q f ∗ Hold c S' q f) := by
  unfold Hold
  exact pointsTo_union h

omit [FloatOps F] in
theorem Hold_congr (c : Dev nD) {S : Finset PIdx} (q) {f g : FVec F S1024x1024 .bf16} (h : ∀ i ∈ S, f i = g i) :
    Hold c S q f = Hold c S q g := by
  unfold Hold
  exact pointsTo_congr h

omit [FloatOps F] in
/-- A full hold weakened to the share of stage `n`, with the way back. -/
theorem Hold_weaken (c : Dev nD) (S) (f : FVec F S1024x1024 .bf16) : ∀ n, Hold c S fullShare f ⊢ iprop(Hold c S (sh n) f ∗ (Hold c S (sh n) f -∗ Hold c S fullShare f))
  | 0 => by
    iintro H; isplitl [H]; · iexact H
    iintro H; iexact H
  | n + 1 => by
    refine (Hold_weaken c S f n).trans ?_
    iintro ⟨H, Hw⟩
    ihave H := (Hold_lend c S n f).1 $$ H
    icases H with ⟨Hl, Hk⟩
    isplitl [Hk]; · iexact Hk
    iintro Hk
    iapply Hw
    iapply (Hold_lend c S n f).2
    isplitl [Hl] <;> iassumption

omit [FloatOps F] in
/-- What a pair holds before a stage, as its two halves. -/
theorem Hold_part (k : Fin 4) (c c' : Dev nD) (q) (f : FVec F S1024x1024 .bf16) :
    Hold c' (part k c) q f ⊣⊢ iprop(Hold c' (part (k + 1) c) q f ∗ Hold c' (part (k + 1) (p k c)) q f) := by
  rw [part_split k c]
  exact Hold_union c' (part_disjoint k c) q f

/-! ## The schedule -/

/-- What the arrival of stage `k`'s partner on `c`'s barrier cell hands over: the partner's landing buffer. -/
def barPay (k : Fin 4) (c : Dev nD) : sProp 𝕄 := bufAny (F := F) k (p k c)
def recvPay (i : Fin 8) (c : Dev nD) : sProp 𝕄 :=
  if i.val < 4 then iprop(bufHas (st i) c (landed m ρ (st i) c) ∗ Hold (p (st i) c) (part (st i + 1) c) fullShare (Tm m ρ (st i) (p (st i) c)))
  else Hold c (part (st i + 1) (p (st i) c)) fullShare (Wm m ρ)
def sendPay (i : Fin 8) (c : Dev nD) : sProp 𝕄 :=
  if i.val < 4 then iprop(emp) else Hold c (part (st i + 1) c) (lend (i.val - 4)) (Wm m ρ)

/-- One round, round 0: a barrier cell has four duties of one unit; a transfer's cell the duty `0` of its credit. -/
def sched : Rounds.Schedule (GSem nD τ sig) (Fin 4) 𝕄 where
  duties g r := if r = 0 then (match g.2 with | .reg _ => Finset.univ | .dma _ => {0}) else ∅
  unitless _ := False
  amount g _ _ := match g.2 with
    | .reg _ => 1
    | .dma q => if h : 4 ≤ q.val then cr (st ⟨(q.val - 4) % 8, Nat.mod_lt _ (by decide)⟩) else 1
  payload g _ d := match g.2 with
    | .reg _ => barPay d g.1.1
    | .dma q =>
      if h : 12 ≤ q.val then recvPay m ρ ⟨(q.val - 12) % 8, Nat.mod_lt _ (by decide)⟩ g.1.1
      else if h : 4 ≤ q.val then sendPay m ρ ⟨(q.val - 4) % 8, Nat.mod_lt _ (by decide)⟩ g.1.1
      else iprop(emp)
  amount_pos g _ _ _ := by
    split
    · exact Nat.one_pos
    · split
      · exact cr_pos _
      · exact Nat.one_pos

instance sched_payload_storable (g : GSem nD τ sig) (r : ℕ) (d : Fin 4) :
    BI.Storable (upEmb : UEmb _ 𝕄) ((sched (F := F) m ρ).payload g r d) := by
  dsimp only [sched]
  unfold barPay recvPay sendPay
  (repeat' split) <;> infer_instance

section Tables
variable (c : Dev nD) (i : Fin 8)

theorem duties_bar : (sched (F := F) m ρ).duties (barCell c) 0 = Finset.univ := by dsimp only [sched]; exact if_pos rfl
theorem duties_dma (q : DmaSem sig) : (sched (F := F) m ρ).duties ((c : Thread nD τ), .dma q) 0 = {0} := by dsimp only [sched]; exact if_pos rfl
theorem duties_later (g : GSem nD τ sig) : ∀ r, 0 + 1 ≤ r → (sched (F := F) m ρ).duties g r = ∅ :=
  fun r hr => by dsimp only [sched]; exact if_neg (by omega)

theorem amount_bar (d : Fin 4) : (sched (F := F) m ρ).amount (barCell c) 0 d = 1 := rfl
theorem amount_send (d : Fin 4) : (sched (F := F) m ρ).amount (sendCell i c) 0 d = cr (st i) := by
  dsimp only [sched]
  rw [dif_pos (show 4 ≤ (sendS i).val from Nat.le_add_right 4 i.val)]
  congr 2; apply Fin.ext; show (4 + i.val - 4) % 8 = i.val; omega
theorem st_amount (i : Fin 8) : st ⟨(12 + i.val - 4) % 8, Nat.mod_lt _ (by decide)⟩ = st i := by revert i; decide
theorem amount_recv (d : Fin 4) : (sched (F := F) m ρ).amount (recvCell i c) 0 d = cr (st i) := by
  dsimp only [sched]
  rw [dif_pos (show 4 ≤ (recvS i).val from by show 4 ≤ 12 + i.val; omega)]
  exact congrArg cr (st_amount i)

theorem expect_bar : (sched (F := F) m ρ).expect (barCell c) 0 = 4 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendCell i c) 0 = cr (st i) := by
  unfold Schedule.expect Schedule.amountOf; rw [duties_dma, Finset.sum_singleton, amount_send]
theorem expect_recv : (sched (F := F) m ρ).expect (recvCell i c) 0 = cr (st i) := by
  unfold Schedule.expect Schedule.amountOf; rw [duties_dma, Finset.sum_singleton, amount_recv]

theorem payload_bar (d : Fin 4) : (sched (F := F) m ρ).payload (barCell c) 0 d = barPay d c := rfl
theorem payload_send (d : Fin 4) : (sched (F := F) m ρ).payload (sendCell i c) 0 d = sendPay m ρ i c := by
  dsimp only [sched]
  rw [dif_neg (show ¬ 12 ≤ (sendS i).val from by show ¬ 12 ≤ 4 + i.val; omega), dif_pos (show 4 ≤ (sendS i).val from Nat.le_add_right 4 i.val)]
  congr 1; apply Fin.ext; show (4 + i.val - 4) % 8 = i.val; omega
theorem payload_recv (d : Fin 4) : (sched (F := F) m ρ).payload (recvCell i c) 0 d = recvPay m ρ i c := by
  dsimp only [sched]
  rw [dif_pos (show 12 ≤ (recvS i).val from Nat.le_add_right 12 i.val)]
  congr 1; apply Fin.ext; show (12 + i.val - 12) % 8 = i.val; omega

/-- All of the barrier's round: every partner's landing buffer. -/
theorem rest_bar : bigSep ((sched (F := F) m ρ).duties (barCell c) 0 \ ∅) (fun d => (sched (F := F) m ρ).payload (barCell c) 0 d)
    = iprop(barPay (F := F) 0 c ∗ barPay (F := F) 1 c ∗ barPay (F := F) 2 c ∗ barPay (F := F) 3 c) := by
  rw [Finset.sdiff_empty, duties_bar, bigSep_univ_eq_bigSepL [0, 1, 2, 3] (by decide) (by decide)]
  rfl
theorem rest_send : bigSep ((sched (F := F) m ρ).duties (sendCell i c) 0 \ ∅) (fun d => (sched (F := F) m ρ).payload (sendCell i c) 0 d) = sendPay m ρ i c := by
  rw [Finset.sdiff_empty, duties_dma, bigSep_singleton, payload_send]
theorem rest_recv : bigSep ((sched (F := F) m ρ).duties (recvCell i c) 0 \ ∅) (fun d => (sched (F := F) m ρ).payload (recvCell i c) 0 d) = recvPay m ρ i c := by
  rw [Finset.sdiff_empty, duties_dma, bigSep_singleton, payload_recv]

end Tables

/-! ## What each device owes at launch; the levels -/

/-- What is owed along a list of cells, the first to be paid first. -/
def owesL : List (GSem nD τ sig × ℕ) → CellTallies nD τ sig Unit
  | [] => 0
  | x :: l => owesL l + tallyAt x.1 () x.2

/-- The landings device `c` still owes from transfer `i` on. -/
def dueRecv (c : Dev nD) (i : ℕ) : List (GSem nD τ sig × ℕ) :=
  ((List.finRange 8).drop i).map fun i => (recvCell i (p (st i) c), cr (st i))

/-- All device `c` owes at launch: a unit to each partner's barrier, in the order of its signals, then the landings. -/
def due (c : Dev nD) : List (GSem nD τ sig × ℕ) :=
  ([0, 2, 1, 3] : List (Fin 4)).map (fun k => (barCell (p k c), 1)) ++ dueRecv c 0

def L (g : GSem nD τ sig) : Finset Unit := if g.1.2 = .tc then {()} else ∅
/-- Barrier cells at 1, receive cell `i` at `2 + i`, everything else (staging, send) at 0. -/
def lv (g : GSem nD τ sig) (_ : Unit) : ℕ := match g.2 with
  | .reg _ => 1
  | .dma q => q.val - 10

theorem L_of_ne (g : GSem nD τ sig) (h : g.1.2 ≠ .tc) : L g = ∅ := if_neg h
theorem L_tc (c : Dev nD) (sm : SemLoc sig) : L ((c : Thread nD τ), sm) = {()} := if_pos rfl

/-- What is owed along a list is owed at a cell of it. -/
theorem owesL_pos (l : List (GSem nD τ sig × ℕ)) {g : GSem nD τ sig} {u : Unit} (h : 0 < owesL l g u) : ∃ x ∈ l, g = x.1 := by
  induction l with
  | nil => exact absurd h (Nat.lt_irrefl 0)
  | cons x l ih =>
    unfold owesL at h
    rw [Pi.add_apply, Finsupp.add_apply] at h
    rcases Nat.eq_zero_or_pos (owesL l g u) with h0 | h0
    · rw [h0, Nat.zero_add] at h
      exact ⟨x, List.mem_cons_self, (Pipeline.tallyAt_pos h).1⟩
    · obtain ⟨y, hy, e⟩ := ih h0
      exact ⟨y, List.mem_cons_of_mem _ hy, e⟩

omit [FloatOps F] in
/-- A device may wait on a cell below all the cells it still owes. -/
theorem mayWait_list (c : Dev nD) (sm : SemLoc sig) (l : List (GSem nD τ sig × ℕ))
    (hl : ∀ x ∈ l, x.1.1.2 = .tc ∧ lv ((c : Thread nD τ), sm) () < lv x.1 ()) :
    (levAts L lv : sProp 𝕄) ⊢ MayWait (c : Thread nD τ) sm () (owesL l) :=
  MayOwe.of_cut (L := L) (lev := lv) (lv ((c : Thread nD τ), sm) ())
    (fun p hp => by rw [Finset.mem_singleton.mp hp, L_tc]; exact Finset.mem_singleton_self _)
    (fun g u hg => by obtain ⟨x, hx, rfl⟩ := owesL_pos l hg; unfold L; rw [if_pos (hl x hx).1]; exact Finset.mem_singleton_self _)
    (fun p hp => by rw [Finset.mem_singleton.mp hp])
    (fun g u hg => by obtain ⟨x, hx, rfl⟩ := owesL_pos l hg; exact (hl x hx).2)

/-- The landings owed from transfer `i` on are transfer `i`'s, then the later ones. -/
theorem dueRecv_cons (c : Dev nD) (i : Fin 8) : dueRecv c i = (recvCell i (p (st i) c), cr (st i)) :: dueRecv c (i.val + 1) := by
  unfold dueRecv
  rw [List.drop_eq_getElem_cons (by rw [List.length_finRange]; exact i.isLt), List.map_cons, List.getElem_finRange]
  rfl

theorem lv_recv (i : Fin 8) (c : Dev nD) : lv (recvCell i c) () = 2 + i.val := by show 12 + i.val - 10 = 2 + i.val; omega

/-- The landings still owed from transfer `i` on are on TensorCore cells at level `2 + i` or above. -/
theorem dueRecv_lv (c : Dev nD) (i : ℕ) : ∀ x ∈ dueRecv c i, x.1.1.2 = .tc ∧ 2 + i ≤ lv x.1 () := by
  intro x hx
  unfold dueRecv at hx
  obtain ⟨j, hj, rfl⟩ := List.mem_map.mp hx
  refine ⟨rfl, ?_⟩
  rw [lv_recv]
  obtain ⟨n, hn, e⟩ := List.mem_iff_getElem.mp hj
  rw [List.getElem_drop, List.getElem_finRange] at e
  rw [← e]
  show 2 + i ≤ 2 + (i + n)
  omega

omit [FloatOps F] in
/-- At its barrier wait a device owes landings only, all above its barrier cell. -/
theorem mayWait_bar (c : Dev nD) : (levAts L lv : sProp 𝕄) ⊢ MayWait (c : Thread nD τ) (.reg barS) () (owesL (dueRecv c 0)) :=
  mayWait_list c _ _ fun x hx => ⟨(dueRecv_lv c 0 x hx).1, Nat.lt_of_lt_of_le (show 1 < 2 by decide) (dueRecv_lv c 0 x hx).2⟩

omit [FloatOps F] in
/-- At its wait for transfer `i` a device owes the later landings only. -/
theorem mayWait_recv (c : Dev nD) (i : Fin 8) :
    (levAts L lv : sProp 𝕄) ⊢ MayWait (c : Thread nD τ) (.dma (recvS i)) () (owesL (dueRecv c (i.val + 1))) :=
  mayWait_list c _ _ fun x hx => ⟨(dueRecv_lv c _ x hx).1, Nat.lt_of_lt_of_le (by
    rw [show lv ((c : Thread nD τ), .dma (recvS i)) () = 2 + i.val from lv_recv i c]; omega) (dueRecv_lv c _ x hx).2⟩

omit [FloatOps F] in
/-- Its staging cells lie below everything it owes at launch. -/
theorem mayWait_stage (c : Dev nD) (q : DmaSem sig) (hq : q.val ≤ 10) : (levAts L lv : sProp 𝕄) ⊢ MayWait (c : Thread nD τ) (.dma q) () (owesL (due c)) :=
  mayWait_list c _ _ fun x hx => by
    have h0 : lv ((c : Thread nD τ), .dma q) () = 0 := by show q.val - 10 = 0; omega
    rw [h0]
    unfold due at hx
    rcases List.mem_append.mp hx with hx | hx
    · obtain ⟨k, -, rfl⟩ := List.mem_map.mp hx
      exact ⟨rfl, Nat.one_pos⟩
    · exact ⟨(dueRecv_lv c 0 x hx).1, Nat.lt_of_lt_of_le (by decide) (dueRecv_lv c 0 x hx).2⟩

end Cert.KernelIdeal.Dispatch

end
-- ==== Proof.KernelIdealSteps.lean ====
module

public import proofs.«01_k».proof.Proof.KernelIdealSchedule

/-!
The steps of the kernel's body, each once for all of its transfers: the arrival at a partner's barrier, the two
waits of a transfer, one stage of the reduction (send a half, receive the other, add it in place), one stage of
the gathering (send what is held, receive as much), and the way back from the lent shares to full ones.
-/

@[expose] public section

set_option maxRecDepth 16384

noncomputable section

namespace Cert.KernelIdeal.Dispatch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The protocol's cells, numbered -/

/-- A device's protocol cells: its barrier's, the eight send cells, the eight receive cells. -/
abbrev CellIx : Type := Unit ⊕ Fin 8 ⊕ Fin 8
abbrev csem : CellIx → SemLoc sig
  | .inl _ => .reg barS
  | .inr (.inl i) => .dma (sendS i)
  | .inr (.inr i) => .dma (recvS i)
abbrev kcell (cj : Dev nD × CellIx) : GSem nD τ sig := ((cj.1 : Thread nD τ), csem cj.2)
abbrev bj : CellIx := .inl ()
abbrev sj (i : Fin 8) : CellIx := .inr (.inl i)
abbrev rj (i : Fin 8) : CellIx := .inr (.inr i)

/-- What every device knows of every cell: its invariant, under the name `K` gives it, and that round 0 is reached. -/
def records (K : Dev nD × CellIx → ℕ) : sProp 𝕄 :=
  iprop((bigSep Finset.univ fun cj : Dev nD × CellIx => cellInv ER (sched m ρ) (K cj) (kcell cj))
    ∗ bigSep Finset.univ fun cj : Dev nD × CellIx => reached ER (kcell cj) 0)

instance records_persistent (K : Dev nD × CellIx → ℕ) : BI.Persistent (records m ρ K) := by unfold records; infer_instance

variable (K : Dev nD × CellIx → ℕ)

theorem rec_at (cj : Dev nD × CellIx) (g : GSem nD τ sig) (h : kcell cj = g) :
    records m ρ K ⊢ iprop(cellInv ER (sched m ρ) (K cj) g ∗ reached ER g 0) := by
  subst h
  unfold records
  exact BI.sep_mono (bigSep_elim (Finset.mem_univ cj)) (bigSep_elim (Finset.mem_univ cj))

/-- The program `e` on device `c`. -/
abbrev wpc (c : Dev nD) {α : Type} (e : Prog (TpuEff nD τ sig (Elt F) Λ₀ .tc) α) (Q : α → sProp 𝕄) : sProp 𝕄 :=
  wp frame (wpE (defs₀ (F := F)) Variants.none (c : Thread nD τ) none) Set.univ e Q

/-- Device `c` owes the payments of a list, whatever it has waited on. -/
def Owes (c : Dev nD) (l : List (GSem nD τ sig × ℕ)) : sProp 𝕄 := iprop(∃ W, owes (c : Thread nD τ) (owesL l) W)

/-- What device `c` starts transfer `i` with: its positions, the two duties it pays, the credit of what it is to receive. -/
def Xfer (i : Fin 8) (c : Dev nD) : sProp 𝕄 :=
  iprop(atPos ER (sendCell i c) 0 ∅ 0 ∗ atPos ER (recvCell i c) 0 ∅ 0
    ∗ dutyTok ER (sendCell i c) 0 (0 : Fin 4) ∗ dutyTok ER (recvCell i (p (st i) c)) 0 (0 : Fin 4)
    ∗ cred (tallyAt (recvCell i c) () (cr (st i))))

/-- What it is left with once it has received: the wait for its own send is still to come. -/
def Sent (i : Fin 8) (c : Dev nD) : sProp 𝕄 :=
  iprop(cred (tallyAt (sendCell i c) () (cr (st i))) ∗ atPos ER (sendCell i c) 0 ∅ 0 ∗ atPos ER (recvCell i c) (0 + 1) ∅ 0)

/-- What is left of it after both waits: every cell of a transfer at its end. -/
def Over (i : Fin 8) (c : Dev nD) : sProp 𝕄 := iprop(atPos ER (sendCell i c) (0 + 1) ∅ 0 ∗ atPos ER (recvCell i c) (0 + 1) ∅ 0)

section Steps
variable (c : Dev nD) {α : Type}

/-- The arrival at stage `k`'s partner: `c`'s landing buffer of that stage goes with it. -/
theorem wp_arrive (k : Fin 4) (n : Dev nD) (hn : n = p k c) (l : List (GSem nD τ sig × ℕ))
    {kk : PUnit → Prog (TpuEff nD τ sig (Elt F) Λ₀ .tc) α} {Q : α → sProp 𝕄} :
    iprop(records m ρ K ∗ Owes c ((barCell (p k c), 1) :: l) ∗ dutyTok ER (barCell (p k c)) 0 k ∗ bufAny k c)
      ⊢ iprop((Owes c l -∗ wpc c (kk ⟨⟩) Q) -∗ wpc c (.op (.semSignal ((n : Dev nD) : Thread nD τ) barS 1) kk) Q) := by
  subst hn
  unfold Owes
  iintro ⟨#HR, ⟨%W, HO⟩, Ht, Hb⟩ Hk
  ihave #HI := (rec_at m ρ K (p k c, bj) (barCell (p k c)) rfl) $$ HR
  icases HI with ⟨#HI, #Hr⟩
  iapply (Rounds.wp_signal Variants.none ER (sched m ρ) (c : Thread nD τ) none (dst := (p k c : Thread nD τ)) (κ := K (p k c, bj))
      (d := k) (by rw [duties_bar]; exact Finset.mem_univ _) (amount_bar m ρ (p k c) k) () (owesL l) rfl) $$ [HO Ht Hb]
  · isplitr; · iexact HI
    isplitl [HO]; · iexact HO
    isplitl [Ht]; · iexact Ht
    isplitl [Hb]
    · rw [payload_bar]; unfold barPay; rw [p_p]; iexact Hb
    iexact Hr
  iintro HO
  iapply Hk
  iexists W; iexact HO

/-- The wait for what transfer `i` brings. -/
theorem wp_recv_wait (i : Fin 8) (k : Fin 4) (hk : st i = k) (q : DmaSem sig) (hq : q = recvS i) (n' : ℕ) (hn : i.val + 1 = n')
    {sp' : Space} {s' : Shape} {e' : EltTy} {src : Memref sig .tc sp' s' e'} {dst : Memref sig .tc .vmem ⟨2, sz k⟩ .bf16} {hsrc hdst}
    {kk : PUnit → Prog (TpuEff nD τ sig (Elt F) Λ₀ .tc) α} {Q : α → sProp 𝕄} :
    iprop(records m ρ K ∗ levAts L lv ∗ cred (tallyAt (recvCell i c) () (cr (st i))) ∗ Owes c (dueRecv c n') ∗ atPos ER (recvCell i c) 0 ∅ 0)
      ⊢ iprop(((Owes c (dueRecv c n') ∗ atPos ER (recvCell i c) (0 + 1) ∅ 0 ∗ recvPay m ρ i c) -∗ wpc c (kk ⟨⟩) Q)
          -∗ wpc c (.op (.waitDma2 q src dst hsrc hdst) kk) Q) := by
  subst hk hq hn
  unfold Owes
  iintro ⟨#HR, #Hlev, Hc, ⟨%W, HO⟩, Hat⟩ Hk
  ihave #HI := (rec_at m ρ K (c, rj i) (recvCell i c) rfl) $$ HR
  icases HI with ⟨#HI, #Hr⟩
  iapply (Rounds.wp_wait_rest_token Variants.none ER (sched m ρ) (c : Thread nD τ) none (κ := K (c, rj i))
      (wpE_waitDma2_eq Variants.none (c : Thread nD τ) none Set.univ) (Set.mem_univ _) () (O := owesL (dueRecv c (i.val + 1))) (W := W) (R := 0) (m := 0) (T := ∅)
      (by rw [Nat.zero_add, expect_recv]; exact credit_eq _ _)) $$ [Hc HO Hat]
  · isplitr; · iexact HI
    isplitl [Hc]; · iexact Hc
    isplitl [HO]; · iexact HO
    isplitr; · iapply (mayWait_recv c i); iexact Hlev
    iexact Hat
  iintro ⟨HO, Hat, -, Hpay⟩
  ihave Hp := (Entails.of_eq (rest_recv m ρ c i)) $$ Hpay
  iapply Hk
  isplitl [HO]; · iexists _; iexact HO
  isplitl [Hat] <;> iassumption

/-- The wait for the source of transfer `i` to be free, nothing owed any more. -/
theorem wp_send_wait (i : Fin 8) (k : Fin 4) (hk : st i = k) (q : DmaSem sig) (hq : q = sendS i)
    {sp' : Space} {s' : Shape} {e' : EltTy} {src : Memref sig .tc sp' s' e'} {dst : Memref sig .tc .vmem ⟨2, sz k⟩ .bf16} {hsrc hdst}
    {kk : PUnit → Prog (TpuEff nD τ sig (Elt F) Λ₀ .tc) α} {Q : α → sProp 𝕄} :
    iprop(records m ρ K ∗ Owes c [] ∗ Sent i c)
      ⊢ iprop(((Owes c [] ∗ Over i c ∗ sendPay m ρ i c) -∗ wpc c (kk ⟨⟩) Q)
          -∗ wpc c (.op (.waitDma2 q src dst hsrc hdst) kk) Q) := by
  subst hk hq
  unfold Owes Sent
  iintro ⟨#HR, ⟨%W, HO⟩, Hc, Hat, Hat'⟩ Hk
  ihave #HI := (rec_at m ρ K (c, sj i) (sendCell i c) rfl) $$ HR
  icases HI with ⟨#HI, #Hr⟩
  iapply (Rounds.wp_wait_rest_token Variants.none ER (sched m ρ) (c : Thread nD τ) none (κ := K (c, sj i))
      (wpE_waitDma2_eq Variants.none (c : Thread nD τ) none Set.univ) (Set.mem_univ _) () (O := owesL []) (W := W) (R := 0) (m := 0) (T := ∅)
      (by rw [Nat.zero_add, expect_send]; exact credit_eq _ _)) $$ [Hc HO Hat]
  · isplitr; · iexact HI
    isplitl [Hc]; · iexact Hc
    isplitl [HO]; · iexact HO
    isplitr; · unfold owesL; rw [MayWait_zero]; iempintro
    iexact Hat
  iintro ⟨HO, Hat, -, Hpay⟩
  ihave Hp := (Entails.of_eq (rest_send m ρ c i)) $$ Hpay
  iapply Hk
  isplitl [HO]; · iexists _; iexact HO
  isplitl [Hat Hat']
  · unfold Over; isplitl [Hat] <;> iassumption
  iexact Hp

omit [FloatOps F] in
theorem dM_readAt (k : Fin 4) (inb : ∀ a, (![0, 0] : Fin 2 → ℕ) a + sz k a ≤ sz k a) (f : Buf (Elt F) ((dM k).view.loc (c : Thread nD τ))) :
    (dM k).view.readAt (Elt F) (Rect.unit (s := ⟨2, sz k⟩) ![0, 0] (sz k) inb).toLoadRect f = (dM k).view.read (Elt F) f := by
  have hz : (![0, 0] : Fin 2 → Nat) = fun _ => 0 := funext fun a => by fin_cases a <;> rfl
  match k with
  | 0 => exact (Memref.readAt_unit_zero (Elt F) cc0_scratch1 hz _ f).trans rfl
  | 1 => exact (Memref.readAt_unit_zero (Elt F) cc0_scratch2 hz _ f).trans rfl
  | 2 => exact (Memref.readAt_unit_zero (Elt F) cc0_scratch3 hz _ f).trans rfl
  | 3 => exact (Memref.readAt_unit_zero (Elt F) cc0_scratch4 hz _ f).trans rfl

omit [FloatOps F] in
theorem dM_set (k : Fin 4) : (dM k).view.set = Finset.univ :=
  match k with
  | 0 => View.set_whole .. | 1 => View.set_whole .. | 2 => View.set_whole .. | 3 => View.set_whole ..

omit [FloatOps F] in
/-- A slice of the partial, as the rows it is. -/
theorem Hold_slice (k : Fin 4) (c c' : Dev nD) (q : PosShare TreeShare) (f : FVec F S1024x1024 .bf16) :
    Hold c' (part (k + 1) c) q f = ((sl k c).view.loc (c' : Thread nD τ) ↦[(sl k c).view.set]{q} f : sProp 𝕄) := by
  rw [sl_set]; rfl

theorem recvPay_reduce (i : Fin 8) (hi : i.val < 4) : recvPay m ρ i c
    = iprop(bufHas (st i) c (landed m ρ (st i) c) ∗ Hold (p (st i) c) (part (st i + 1) c) fullShare (Tm m ρ (st i) (p (st i) c))) := if_pos hi
theorem recvPay_gather (i : Fin 8) (hi : ¬ i.val < 4) : recvPay m ρ i c = Hold c (part (st i + 1) (p (st i) c)) fullShare (Wm m ρ) := if_neg hi

/-- The memory a landing copy leaves is what transfer `i` hands its receiver: in the reduction. -/
theorem reduce_pay (i : Fin 8) (hi : i.val < 4) (fd : Buf (Elt F) ((dM (st i)).view.loc (p (st i) c : Thread nD τ))) :
    iprop(((dM (st i)).view.loc (p (st i) c : Thread nD τ) ↦[(dM (st i)).view.set]{fullShare}
          ((dM (st i)).view.write (Elt F) fd ((sl (st i) (p (st i) c)).view.read (Elt F) (Tm m ρ (st i) c)) Finset.univ))
        ∗ ((sl (st i) (p (st i) c)).view.loc (c : Thread nD τ) ↦[(sl (st i) (p (st i) c)).view.set]{fullShare} (Tm m ρ (st i) c)))
      ⊢ recvPay m ρ i (p (st i) c) := by
  unfold recvPay bufHas bufPts
  rw [if_pos hi, p_p, Hold_slice]
  iintro ⟨Hd, Hs⟩
  isplitl [Hd]
  · iexists _
    isplitr; swap; · iexact Hd
    ipureintro
    rw [View.read_write_univ]
    unfold landed
    rw [p_p]
  · iexact Hs

/-- The memory a landing copy leaves is what transfer `i` hands its receiver: in the gathering. -/
theorem gather_pay (i : Fin 8) (hi : ¬ i.val < 4) (fd : FVec F S1024x1024 .bf16) :
    ((sl (st i) c).view.loc (p (st i) c : Thread nD τ) ↦[(sl (st i) c).view.set]{fullShare}
        ((sl (st i) c).view.write (Elt F) fd ((sl (st i) c).view.read (Elt F) (Wm m ρ)) Finset.univ))
      ⊢ recvPay m ρ i (p (st i) c) := by
  unfold recvPay
  rw [if_neg hi, p_p, Hold_slice]
  exact Entails.of_eq (pointsTo_congr fun x hx => copy_at _ _ _ fd (Wm m ρ) x hx)

/-- The transfer `i` to `n`: nothing comes back with the send, the source goes with the landing (`hpay`). -/
theorem wp_copy_landing (i : Fin 8) (n : Dev nD) (hn : n = p (st i) c) {qS qR : DmaSem sig} (hqS : qS = sendS i) (hqR : qR = recvS i)
    {src dst : Memref sig .tc .vmem ⟨2, sz (st i)⟩ .bf16} {hsc hsrc hdst hsem}
    (l : List (GSem nD τ sig × ℕ)) {fs : Buf (Elt F) (src.view.loc (c : Thread nD τ))} {fd : Buf (Elt F) (dst.view.loc (p (st i) c : Thread nD τ))}
    (hemp : (emp : sProp 𝕄) ⊢ sendPay m ρ i c)
    (hpay : iprop((dst.view.loc (p (st i) c : Thread nD τ) ↦[dst.view.set]{fullShare} (dst.view.write (Elt F) fd (src.view.read (Elt F) fs) Finset.univ))
        ∗ (src.view.loc (c : Thread nD τ) ↦[src.view.set]{fullShare} fs)) ⊢ recvPay m ρ i (p (st i) c))
    {kk : PUnit → Prog (TpuEff nD τ sig (Elt F) Λ₀ .tc) α} {Q : α → sProp 𝕄} :
    iprop(records m ρ K ∗ (src.view.loc (c : Thread nD τ) ↦[src.view.set]{fullShare} fs)
        ∗ (dst.view.loc (p (st i) c : Thread nD τ) ↦[dst.view.set]{fullShare} fd)
        ∗ Owes c ((recvCell i (p (st i) c), cr (st i)) :: l) ∗ dutyTok ER (sendCell i c) 0 (0 : Fin 4) ∗ dutyTok ER (recvCell i (p (st i) c)) 0 (0 : Fin 4))
      ⊢ iprop(((cred (tallyAt (sendCell i c) () (cr (st i))) ∗ Owes c l) -∗ wpc c (kk ⟨⟩) Q)
          -∗ wpc c (.op (.enqueueDma src (.remote ((n : Dev nD) : Thread nD τ) dst (.dma qS) hsc) (.dma qR) hsrc hdst hsem) kk) Q) := by
  subst hn hqS hqR
  unfold Owes
  iintro ⟨#HR, Hs, Hd, ⟨%W, HO⟩, HtS, HtR⟩ Hk
  ihave #HIS := (rec_at m ρ K (c, sj i) (sendCell i c) rfl) $$ HR
  icases HIS with ⟨#HIS, #HrS⟩
  ihave #HIR := (rec_at m ρ K (p (st i) c, rj i) (recvCell i (p (st i) c)) rfl) $$ HR
  icases HIR with ⟨#HIR, #HrR⟩
  iapply (Rounds.wp_send_landing_pointsTo Variants.none ER (sched m ρ) (c : Thread nD τ) none (κ₁ := K (c, sj i)) (κ₂ := K (p (st i) c, rj i))
      (r₁ := 0) (r₂ := 0) (d₁ := (0 : Fin 4)) (d₂ := (0 : Fin 4)) (fd := fd) (fs := fs) (q := fullShare) (src := src) (c' := (p (st i) c : Thread nD τ)) (dst := dst)
      (sS := .dma (sendS i)) (sem := .dma (recvS i))
      (by rw [duties_dma]; exact Finset.mem_singleton_self _) (by rw [duties_dma]; exact Finset.mem_singleton_self _)
      () () (cr (st i)) (credit_eq (st i) dst) (amount_send m ρ c i 0) (amount_recv m ρ (p (st i) c) i 0) (owesL l) rfl (W := W)
      (by rw [payload_send]; exact hemp) (by rw [payload_recv]; exact hpay)) $$ [Hs Hd HO HtS HtR]
  · isplitr; · iexact HIS
    isplitr; · iexact HIR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  isplitl [HcS]; · iexact HcS
  iexists W; iexact HO

/-- The transfer `i` to `n`: the source share comes back with the send, the written destination goes with the landing. -/
theorem wp_copy (i : Fin 8) (n : Dev nD) (hn : n = p (st i) c) {qS qR : DmaSem sig} (hqS : qS = sendS i) (hqR : qR = recvS i)
    {src dst : Memref sig .tc .vmem ⟨2, sz (st i)⟩ .bf16} {hsc hsrc hdst hsem}
    (l : List (GSem nD τ sig × ℕ)) {q : PosShare TreeShare}
    {fs : Buf (Elt F) (src.view.loc (c : Thread nD τ))} {fd : Buf (Elt F) (dst.view.loc (p (st i) c : Thread nD τ))}
    (hback : (src.view.loc (c : Thread nD τ) ↦[src.view.set]{q} fs) ⊢ sendPay m ρ i c)
    (hpay : (dst.view.loc (p (st i) c : Thread nD τ) ↦[dst.view.set]{fullShare} (dst.view.write (Elt F) fd (src.view.read (Elt F) fs) Finset.univ))
        ⊢ recvPay m ρ i (p (st i) c))
    {kk : PUnit → Prog (TpuEff nD τ sig (Elt F) Λ₀ .tc) α} {Q : α → sProp 𝕄} :
    iprop(records m ρ K ∗ (src.view.loc (c : Thread nD τ) ↦[src.view.set]{q} fs)
        ∗ (dst.view.loc (p (st i) c : Thread nD τ) ↦[dst.view.set]{fullShare} fd)
        ∗ Owes c ((recvCell i (p (st i) c), cr (st i)) :: l) ∗ dutyTok ER (sendCell i c) 0 (0 : Fin 4) ∗ dutyTok ER (recvCell i (p (st i) c)) 0 (0 : Fin 4))
      ⊢ iprop(((cred (tallyAt (sendCell i c) () (cr (st i))) ∗ Owes c l) -∗ wpc c (kk ⟨⟩) Q)
          -∗ wpc c (.op (.enqueueDma src (.remote ((n : Dev nD) : Thread nD τ) dst (.dma qS) hsc) (.dma qR) hsrc hdst hsem) kk) Q) := by
  subst hn hqS hqR
  unfold Owes
  iintro ⟨#HR, Hs, Hd, ⟨%W, HO⟩, HtS, HtR⟩ Hk
  ihave #HIS := (rec_at m ρ K (c, sj i) (sendCell i c) rfl) $$ HR
  icases HIS with ⟨#HIS, #HrS⟩
  ihave #HIR := (rec_at m ρ K (p (st i) c, rj i) (recvCell i (p (st i) c)) rfl) $$ HR
  icases HIR with ⟨#HIR, #HrR⟩
  iapply (Rounds.wp_send_pointsTo Variants.none ER (sched m ρ) (c : Thread nD τ) none (κ₁ := K (c, sj i)) (κ₂ := K (p (st i) c, rj i))
      (r₁ := 0) (r₂ := 0) (d₁ := (0 : Fin 4)) (d₂ := (0 : Fin 4)) (fd := fd) (fs := fs) (q := q) (src := src) (c' := (p (st i) c : Thread nD τ)) (dst := dst)
      (sS := .dma (sendS i)) (sem := .dma (recvS i))
      (by rw [duties_dma]; exact Finset.mem_singleton_self _) (by rw [duties_dma]; exact Finset.mem_singleton_self _)
      () () (cr (st i)) (credit_eq (st i) dst) (amount_send m ρ c i 0) (amount_recv m ρ (p (st i) c) i 0) (owesL l) rfl (W := W)
      (by rw [payload_send]; exact hback) (by rw [payload_recv]; exact hpay)) $$ [Hs Hd HO HtS HtR]
  · isplitr; · iexact HIS
    isplitr; · iexact HIR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  isplitl [HcS]; · iexact HcS
  iexists W; iexact HO

/-- The landed half of stage `k` added in place to the kept half. -/
theorem wp_add (k : Fin 4) {inb₂ : ∀ x, off k c x + sz k x ≤ S1024x1024.size x}
    {inb₀ : ∀ x, (![0, 0] : Fin 2 → ℕ) x + sz k x ≤ sz k x}
    (pay : Vec F ⟨2, sz k⟩ .bf16 → Vec F ⟨2, sz k⟩ .bf16 → Vec F ⟨2, sz k⟩ .bf16) (hpay : ∀ v w, pay v w = fun x => FloatOps.addf (v x) (w x))
    {hl hl₀ hl' hst hm} {kk : PUnit → Prog (TpuEff nD τ sig (Elt F) Λ₀ .tc) α} {Q : α → sProp 𝕄} :
    iprop(Hold c (part (k + 1) c) fullShare (Tm m ρ k c) ∗ bufHas k c (landed m ρ k c))
      ⊢ iprop(((Hold c (part (k + 1) c) fullShare (Tm m ρ (k + 1) c) ∗ bufAny k c) -∗ wpc c (kk ⟨⟩) Q)
          -∗ wpc c (.op (.load pM (Rect.unit (s := S1024x1024) (off k c) (sz k) inb₂).toLoadRect hl)
              fun v => .op (.load (dM k) (Rect.unit (s := ⟨2, sz k⟩) ![0, 0] (sz k) inb₀).toLoadRect hl₀)
              fun w => .op (.load pM (Rect.unit (s := S1024x1024) (off k c) (sz k) inb₂).toLoadRect hl')
              fun _ => .op (.store pM (Rect.unit (s := S1024x1024) (off k c) (sz k) inb₂) (pay v w) Finset.univ hst hm) kk) Q) := by
  unfold bufHas bufAny bufPts
  rw [Hold_slice]
  iintro ⟨Hkeep, ⟨%g, %hg, Hb⟩⟩ Hk
  iapply (wp_load_rect Variants.none (c : Thread nD τ) none Set.univ (m := pM) (r := Rect.unit (s := S1024x1024) (off k c) (sz k) inb₂)
      (S := (sl k c).view.set) (q := fullShare) (f := Tm m ρ k c) (by exact Finset.Subset.refl _)) $$ Hkeep; iintro Hkeep
  iapply (wp_load Variants.none (c : Thread nD τ) none Set.univ (m := dM k) (by rw [dM_set]; exact Finset.subset_univ _)) $$ Hb; iintro Hb
  iapply (wp_load_rect Variants.none (c : Thread nD τ) none Set.univ (m := pM) (r := Rect.unit (s := S1024x1024) (off k c) (sz k) inb₂)
      (S := (sl k c).view.set) (q := fullShare) (f := Tm m ρ k c) (by exact Finset.Subset.refl _)) $$ Hkeep; iintro Hkeep
  iapply (wp_store Variants.none (c : Thread nD τ) none Set.univ (m := pM) (r := Rect.unit (s := S1024x1024) (off k c) (sz k) inb₂)
      (Mk := Finset.univ) (S := (sl k c).view.set) (f := Tm m ρ k c) (by exact Finset.Subset.refl _)) $$ Hkeep; iintro Hkeep
  iapply Hk
  isplitl [Hkeep]
  · iapply (Entails.of_eq (Hold_slice k c c fullShare _).symm)
    iapply (Entails.of_eq (pointsTo_congr fun x hx => ?_)) $$ Hkeep
    rw [hpay, dM_readAt (c := c), hg, Tm_succ]
    exact add_at _ _ _ (Tm m ρ k c) (Tm m ρ k (p k c)) x hx
  · iexists g; iexact Hb

/-- One stage of the reduction: the half the partner keeps goes to the partner, the half `c` keeps comes from there
    and is added in place. Left are the kept half of the next partial, the partner's rows of that half, and the
    landing buffer. -/
theorem wp_reduce (i : Fin 8) (hi : i.val < 4) (k : Fin 4) (hk : st i = k) (a b : ℕ) (ha : k.val = a) (hb : a + 1 = b)
    (hia : i.val = a) (n : Dev nD) (hn : n = p k c)
    {off₁ off₂ : Fin 2 → ℕ} (h₁ : off₁ = off k (p k c)) (h₂ : off₂ = off k c)
    {inb₁ : ∀ x, off₁ x + sz k x ≤ S1024x1024.size x} {inb₂ : ∀ x, off₂ x + sz k x ≤ S1024x1024.size x}
    {inb₀ : ∀ x, (![0, 0] : Fin 2 → ℕ) x + sz k x ≤ sz k x}
    {qS qR : DmaSem sig} (hqS : qS = sendS i) (hqR : qR = recvS i)
    (pay : Vec F ⟨2, sz k⟩ .bf16 → Vec F ⟨2, sz k⟩ .bf16 → Vec F ⟨2, sz k⟩ .bf16) (hpay : ∀ v w, pay v w = fun x => FloatOps.addf (v x) (w x))
    {hs₁ hs₁' hsc hsrc hdst hsem hsrc' hdst' hl hl₀ hl' hst hm}
    {kk : PUnit → Prog (TpuEff nD τ sig (Elt F) Λ₀ .tc) α} {Q : α → sProp 𝕄} :
    iprop(records m ρ K ∗ levAts L lv ∗ Hold c (part a c) fullShare (Tm m ρ a c) ∗ bufAny k (p k c) ∗ Owes c (dueRecv c a) ∗ Xfer i c)
      ⊢ iprop(((Hold c (part b c) fullShare (Tm m ρ b c) ∗ Hold (p k c) (part b c) fullShare (Tm m ρ a (p k c)) ∗ bufAny k c
              ∗ Owes c (dueRecv c b) ∗ Sent i c) -∗ wpc c (kk ⟨⟩) Q)
          -∗ wpc c (.op (.enqueueDma (pM.slice (Rect.unit (s := S1024x1024) off₁ (sz k) inb₁) hs₁)
                (.remote ((n : Dev nD) : Thread nD τ) (dM k) (.dma qS) hsc) (.dma qR) hsrc hdst hsem)
              fun _ => .op (.waitDma2 qR (pM.slice (Rect.unit (s := S1024x1024) off₁ (sz k) inb₁) hs₁') (dM k) hsrc' hdst')
              fun _ => .op (.load pM (Rect.unit (s := S1024x1024) off₂ (sz k) inb₂).toLoadRect hl)
              fun v => .op (.load (dM k) (Rect.unit (s := ⟨2, sz k⟩) ![0, 0] (sz k) inb₀).toLoadRect hl₀)
              fun w => .op (.load pM (Rect.unit (s := S1024x1024) off₂ (sz k) inb₂).toLoadRect hl')
              fun _ => .op (.store pM (Rect.unit (s := S1024x1024) off₂ (sz k) inb₂) (pay v w) Finset.univ hst hm) kk) Q) := by
  subst hn h₁ h₂ hb ha hk
  iintro ⟨#HR, #Hlev, Hh, Hb, HO, Hx⟩ Hk
  unfold Xfer
  icases Hx with ⟨HatS, HatR, HtS, HtR, Hc⟩
  ihave Hh := (Hold_part (st i) c c fullShare (Tm m ρ (st i) c)).1 $$ Hh
  icases Hh with ⟨Hkeep, Hsend⟩
  ihave Hsend := (Entails.of_eq ((congrArg (fun S => Hold c S fullShare (Tm m ρ (st i) c)) (sl_set (st i) (p (st i) c)).symm))) $$ Hsend
  rw [show dueRecv c (st i) = (recvCell i (p (st i) c), cr (st i)) :: dueRecv c ((st i).val + 1) by rw [← hia]; exact dueRecv_cons c i]
  unfold bufAny bufPts
  icases Hb with ⟨%fd, Hb⟩
  iapply (wp_copy_landing m ρ K c i _ rfl hqS hqR (src := sl (st i) (p (st i) c)) (dst := dM (st i)) (fs := Tm m ρ (st i) c) (fd := fd) (dueRecv c ((st i).val + 1))
    (by unfold sendPay; rw [if_pos hi]) (reduce_pay m ρ c i hi fd)) $$ [Hsend Hb HO HtS HtR]
  · isplitr; · iexact HR
    isplitl [Hsend]; · unfold Hold; iexact Hsend
    isplitl [Hb]; · iexact Hb
    isplitl [HO]; · iexact HO
    isplitl [HtS] <;> iassumption
  iintro ⟨HcS, HO⟩
  iapply (wp_recv_wait m ρ K c i (st i) rfl _ hqR _ (congrArg (· + 1) hia)) $$ [Hc HO HatR]
  · isplitr; · iexact HR
    isplitr; · iexact Hlev
    isplitl [Hc]; · iexact Hc
    isplitl [HO]; · iexact HO
    iexact HatR
  iintro ⟨HO, HatR, Hpay⟩
  ihave Hpay := (Entails.of_eq (recvPay_reduce m ρ c i hi)) $$ Hpay
  icases Hpay with ⟨Hb, Hpart⟩
  iapply (wp_add m ρ c (st i) pay hpay) $$ [Hkeep Hb]
  · isplitl [Hkeep] <;> iassumption
  iintro ⟨Hkeep, Hb⟩
  iapply Hk
  isplitl [Hkeep]; · iexact Hkeep
  isplitl [Hpart]; · iexact Hpart
  isplitl [Hb]; · unfold bufAny bufPts; iexact Hb
  isplitl [HO]; · iexact HO
  unfold Sent
  isplitl [HcS]; · iexact HcS
  isplitl [HatS] <;> iassumption

/-- What takes the rows transfer `i` received back from share `sh n` to the full share. -/
def Back (k : Fin 4) (n : ℕ) : sProp 𝕄 :=
  iprop(Hold c (part (k + 1) (p k c)) (sh n) (Wm m ρ) -∗ Hold c (part (k + 1) (p k c)) fullShare (Wm m ρ))

/-- One stage of the gathering: the rows held go to the partner, to be found at the same place, and as many come
    from there. One half of the held share is lent to the copy; the rows held then are twice as many, at the other half. -/
theorem wp_gather (i : Fin 8) (j j' : ℕ) (hj : i.val = 4 + j) (hj' : j + 1 = j') (k : Fin 4) (hk : st i = k) (a b : ℕ) (ha : k.val = a) (hb : a + 1 = b)
    (d d' : ℕ) (hd : i.val = d) (hd' : d + 1 = d') (n : Dev nD) (hn : n = p k c)
    {off₁ : Fin 2 → ℕ} (h₁ : off₁ = off k c) {inb₁ : ∀ x, off₁ x + sz k x ≤ S1024x1024.size x}
    {qS qR : DmaSem sig} (hqS : qS = sendS i) (hqR : qR = recvS i) (g : FVec F S1024x1024 .bf16)
    {hs₁ hs₂ hs₃ hs₄ hsc hsrc hdst hsem hsrc' hdst'}
    {kk : PUnit → Prog (TpuEff nD τ sig (Elt F) Λ₀ .tc) α} {Q : α → sProp 𝕄} :
    iprop(records m ρ K ∗ levAts L lv ∗ Hold c (part b c) (sh j) (Wm m ρ) ∗ Hold (p k c) (part b c) fullShare g ∗ Owes c (dueRecv c d) ∗ Xfer i c)
      ⊢ iprop(((Hold c (part a c) (sh j') (Wm m ρ) ∗ Back m ρ c k j' ∗ Owes c (dueRecv c d') ∗ Sent i c) -∗ wpc c (kk ⟨⟩) Q)
          -∗ wpc c (.op (.enqueueDma (pM.slice (Rect.unit (s := S1024x1024) off₁ (sz k) inb₁) hs₁)
                (.remote ((n : Dev nD) : Thread nD τ) (pM.slice (Rect.unit (s := S1024x1024) off₁ (sz k) inb₁) hs₂) (.dma qS) hsc) (.dma qR) hsrc hdst hsem)
              fun _ => .op (.waitDma2 qR (pM.slice (Rect.unit (s := S1024x1024) off₁ (sz k) inb₁) hs₃)
                (pM.slice (Rect.unit (s := S1024x1024) off₁ (sz k) inb₁) hs₄) hsrc' hdst') kk) Q) := by
  subst hn h₁ hb ha hj' hd' hd hk
  have hi : ¬ i.val < 4 := by omega
  iintro ⟨#HR, #Hlev, Hh, Hd, HO, Hx⟩ Hk
  unfold Xfer
  icases Hx with ⟨HatS, HatR, HtS, HtR, Hc⟩
  ihave Hh := (Hold_lend c (part (st i + 1) c) j (Wm m ρ)).1 $$ Hh
  icases Hh with ⟨Hlent, Hheld⟩
  ihave Hlent := (Entails.of_eq (Hold_slice (st i) c c (lend j) (Wm m ρ))) $$ Hlent
  ihave Hd := (Entails.of_eq (Hold_slice (st i) c (p (st i) c) fullShare g)) $$ Hd
  rw [dueRecv_cons c i]
  iapply (wp_copy m ρ K c i _ rfl hqS hqR (src := sl (st i) c) (dst := sl (st i) c) (fs := Wm m ρ) (fd := g) (q := lend j) (dueRecv c (i.val + 1))
    (by unfold sendPay; rw [if_neg hi, show i.val - 4 = j by omega, Hold_slice]) (gather_pay m ρ c i hi g)) $$ [Hlent Hd HO HtS HtR]
  · isplitr; · iexact HR
    isplitl [Hlent]; · iexact Hlent
    isplitl [Hd]; · iexact Hd
    isplitl [HO]; · iexact HO
    isplitl [HtS] <;> iassumption
  iintro ⟨HcS, HO⟩
  iapply (wp_recv_wait m ρ K c i (st i) rfl _ hqR _ rfl) $$ [Hc HO HatR]
  · isplitr; · iexact HR
    isplitr; · iexact Hlev
    isplitl [Hc]; · iexact Hc
    isplitl [HO]; · iexact HO
    iexact HatR
  iintro ⟨HO, HatR, Hpay⟩
  ihave Hpay := (Entails.of_eq (recvPay_gather m ρ c i hi)) $$ Hpay
  ihave Hpay := (Hold_weaken c (part (st i + 1) (p (st i) c)) (Wm m ρ) (j + 1)) $$ Hpay
  icases Hpay with ⟨Hgot, Hback⟩
  iapply Hk
  isplitl [Hheld Hgot]
  · iapply (Hold_part (st i) c c (sh (j + 1)) (Wm m ρ)).2
    isplitl [Hheld] <;> iassumption
  isplitl [Hback]; · unfold Back; iexact Hback
  isplitl [HO]; · iexact HO
  unfold Sent
  isplitl [HcS]; · iexact HcS
  isplitl [HatS] <;> iassumption

/-- With the lent share of transfer `i` back, its rows are held as before it, and those it brought at the full share. -/
theorem unwind (i : Fin 8) (j j' : ℕ) (hj : i.val = 4 + j) (hj' : j + 1 = j') (k : Fin 4) (hk : st i = k) (a b : ℕ) (ha : k.val = a) (hb : a + 1 = b) :
    iprop(Hold c (part a c) (sh j') (Wm m ρ) ∗ Back m ρ c k j' ∗ sendPay m ρ i c)
      ⊢ iprop(Hold c (part b c) (sh j) (Wm m ρ) ∗ Hold c (part b (p k c)) fullShare (Wm m ρ)) := by
  subst hb ha hj' hk
  unfold sendPay Back
  rw [if_neg (show ¬ i.val < 4 by omega), show i.val - 4 = j by omega]
  iintro ⟨Hh, Hb, Hl⟩
  ihave Hh := (Hold_part (st i) c c (sh (j + 1)) (Wm m ρ)).1 $$ Hh
  icases Hh with ⟨Hk, Hg⟩
  isplitl [Hk Hl]
  · iapply (Hold_lend c (part (st i + 1) c) j (Wm m ρ)).2
    isplitl [Hl] <;> iassumption
  iapply Hb
  iexact Hg

end Steps

end Cert.KernelIdeal.Dispatch

end
-- ==== Proof.KernelIdealBody.lean ====
module

public import proofs.«01_k».proof.Proof.KernelIdealSteps
public import proofs.«01_k».proof.Proof.Gen.KernelIdeal.Points
public import Idealize.ShloMosaic.Lib.Pipeline.Value

/-!
The kernel's body on one device, executed symbolically from what the launch gives it to what it leaves.
-/

@[expose] public section

set_option maxRecDepth 16384

noncomputable section

namespace Cert.KernelIdeal.Dispatch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result, the same on every device: the reduced partial. -/
def outAt : (cc0_stg3_0 : Ref sig .tc).ty.Contents (Elt F) := k0_pay12 (Wm m ρ)

/-- A device's share of the protocol at launch: its barrier position, the arrivals it pays, its transfers' positions and duties. -/
def Duties (i : Fin 8) (c : Dev nD) : sProp 𝕄 :=
  iprop(atPos ER (sendCell i c) 0 ∅ 0 ∗ atPos ER (recvCell i c) 0 ∅ 0
    ∗ dutyTok ER (sendCell i c) 0 (0 : Fin 4) ∗ dutyTok ER (recvCell i (p (st i) c)) 0 (0 : Fin 4))
def ghost (K : Dev nD × CellIx → ℕ) (c : Dev nD) : sProp 𝕄 :=
  iprop(records m ρ K ∗ atPos ER (barCell c) 0 ∅ 0 ∗ (bigSep Finset.univ fun k : Fin 4 => dutyTok ER (barCell (p k c)) 0 k)
    ∗ bigSep Finset.univ fun i : Fin 8 => Duties i c)

/-- The credits it starts with: its barrier's four units, and what it is to receive. -/
def Creds (c : Dev nD) : sProp 𝕄 :=
  iprop(cred (tallyAt (barCell c) () 4) ∗ bigSep Finset.univ fun i : Fin 8 => cred (tallyAt (recvCell i c) () (cr (st i))))

/-- Its scratch buffers, holding anything. -/
def Scratch (c : Dev nD) : sProp 𝕄 :=
  iprop((∃ f, Hold c Finset.univ fullShare f) ∗ bufAny 0 c ∗ bufAny 1 c ∗ bufAny 2 c ∗ bufAny 3 c)

def Φ₀ (c : Dev nD) : sProp 𝕄 := iprop((∃ K, ghost m ρ K c) ∗ Creds c ∗ levAts L lv ∗ Scratch c)
/-- After the point: the scratch buffers again, and every cell of the protocol closed, its counter at zero. -/
def Φ₁ (c : Dev nD) : sProp 𝕄 :=
  iprop(Scratch c ∗ semVal (barCell c) 0 ∗ bigSep Finset.univ fun i : Fin 8 => iprop(semVal (sendCell i c) 0 ∗ semVal (recvCell i c) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => estg m ρ c
    | ⟨3, _⟩ => outAt m ρ
  Φ t := match t with
    | ⟨0, _⟩ => Φ₀ m ρ c
    | ⟨_ + 1, _⟩ => Φ₁ c
  q _ := fullShare
  owed t := match t with
    | ⟨0, _⟩ => owesL (due c)
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The body -/

section Body

variable (K : Dev nD × CellIx → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ Creds c ∗ levAts L lv ∗ Scratch c)
    ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ c ∗ (dats m ρ 0 c).owesAt () t₀.succ ∗ stg c cc0_stg0_0 (xstg m ρ c) ∗ stg c cc0_stg1_0 (rstg m ρ c)
    ∗ stg c cc0_stg2_0 (estg m ρ c) ∗ stg c cc0_stg3_0 (outAt m ρ))

theorem xfer_of (i : Fin 8) (c : Dev nD) : iprop(Duties (F := F) i c ∗ cred (tallyAt (recvCell i c) () (cr (st i)))) ⊢ Xfer (F := F) i c := by
  unfold Duties Xfer
  iintro ⟨⟨H1, H2, H3, H4⟩, H5⟩
  isplitl [H1]; · iexact H1
  isplitl [H2]; · iexact H2
  isplitl [H3]; · iexact H3
  isplitl [H4] <;> iassumption

/-- Its transfers' shares of the protocol, each with its credit. -/
theorem xfers (c : Dev nD) :
    iprop((bigSep Finset.univ fun i : Fin 8 => Duties (F := F) i c) ∗ bigSep Finset.univ fun i : Fin 8 => cred (tallyAt (recvCell i c) () (cr (st i))))
      ⊢ iprop(Xfer (F := F) 0 c ∗ Xfer 1 c ∗ Xfer 2 c ∗ Xfer 3 c ∗ Xfer 4 c ∗ Xfer 5 c ∗ Xfer 6 c ∗ Xfer 7 c) := by
  rw [← bigSep_fin8 fun i => Xfer i c, ← bigSep_sep']
  exact bigSep_mono fun i _ => xfer_of i c

/-- The cells of the transfers close: their counters, at zero, are the device's again. -/
theorem close_xfers (c : Dev nD) :
    iprop(records m ρ K ∗ bigSep Finset.univ fun i : Fin 8 => Over (F := F) i c)
      ⊢ iprop(|={Set.univ}=> bigSep Finset.univ fun i : Fin 8 => iprop(semVal (sendCell i c) 0 ∗ semVal (recvCell i c) 0)) := by
  refine (bigSep_with_persistent fun i _ => ?_).trans (bigSep_fupd _ _)
  unfold Over
  iintro ⟨#HR, HatS, HatR⟩
  ihave #HIS := (rec_at m ρ K (c, sj i) (sendCell i c) rfl) $$ HR
  icases HIS with ⟨#HIS, #HrS⟩
  ihave #HIR := (rec_at m ρ K (c, rj i) (recvCell i c) rfl) $$ HR
  icases HIR with ⟨#HIR, #HrR⟩
  imod (Rounds.cell_close ER (sched m ρ) (Set.mem_univ (K (c, sj i))) (fun h => h) (R := 0 + 1) (duties_later m ρ (sendCell i c))) $$ [HatS] with HzS
  · isplitr; · iexact HIS
    iexact HatS
  imod (Rounds.cell_close ER (sched m ρ) (Set.mem_univ (K (c, rj i))) (fun h => h) (R := 0 + 1) (duties_later m ρ (recvCell i c))) $$ [HatR] with HzR
  · isplitr; · iexact HIR
    iexact HatR
  imodintro
  isplitl [HzS] <;> iassumption

/-- The barrier cell closes too. -/
theorem close_bar (c : Dev nD) :
    iprop(records m ρ K ∗ atPos ER (barCell c) (0 + 1) ∅ 0) ⊢ iprop(|={Set.univ}=> semVal (barCell c) 0) := by
  iintro ⟨#HR, HatB⟩
  ihave #HI := (rec_at m ρ K (c, bj) (barCell c) rfl) $$ HR
  icases HI with ⟨#HI, #Hr⟩
  iapply (Rounds.cell_close ER (sched m ρ) (Set.mem_univ (K (c, bj))) (fun h => h) (R := 0 + 1) (duties_later m ρ (barCell c)))
  isplitr; · iexact HI
  iexact HatB

/-- The wait on the barrier: with the four partners' arrivals come their landing buffers. -/
theorem wp_bar_wait (c : Dev nD) {α : Type} {kk : PUnit → Prog (TpuEff nD τ sig (Elt F) Λ₀ .tc) α} {Q : α → sProp 𝕄} :
    iprop(records m ρ K ∗ levAts L lv ∗ cred (tallyAt (barCell c) () 4) ∗ Owes c (dueRecv c 0) ∗ atPos ER (barCell c) 0 ∅ 0)
      ⊢ iprop(((Owes c (dueRecv c 0) ∗ atPos ER (barCell c) (0 + 1) ∅ 0
              ∗ bufAny 0 (p 0 c) ∗ bufAny 1 (p 1 c) ∗ bufAny 2 (p 2 c) ∗ bufAny 3 (p 3 c)) -∗ wpc c (kk ⟨⟩) Q)
          -∗ wpc c (.op (.semWait barS 4) kk) Q) := by
  unfold Owes
  iintro ⟨#HR, #Hlev, HcB, ⟨%W, HO⟩, HatB⟩ Hk
  ihave #HI := (rec_at m ρ K (c, bj) (barCell c) rfl) $$ HR
  icases HI with ⟨#HI, #Hr⟩
  iapply (Rounds.wp_wait_rest_token 𝒱₀ ER (sched m ρ) (c : Thread nD τ) none (κ := K (c, bj))
      (wpE_semWait_eq 𝒱₀ (c : Thread nD τ) none Set.univ) (Set.mem_univ _) () (O := owesL (dueRecv c 0)) (W := W) (R := 0) (m := 0) (T := ∅)
      (by rw [expect_bar])) $$ [HcB HO HatB]
  · isplitr; · iexact HI
    isplitl [HcB]; · iexact HcB
    isplitl [HO]; · iexact HO
    isplitr; · iapply (mayWait_bar c); iexact Hlev
    iexact HatB
  iintro ⟨HO, HatB, -, Hpay⟩
  ihave Hb := (Entails.of_eq (rest_bar m ρ c)) $$ Hpay
  iapply Hk
  isplitl [HO]; · iexists _; iexact HO
  isplitl [HatB]; · iexact HatB
  iexact Hb

/-! What the loads and stores of whole buffers read and leave. -/

omit [FloatOps F] in
theorem hz : (![0, 0] : Fin 2 → Nat) = fun _ => 0 := funext fun a => by fin_cases a <;> rfl
omit [FloatOps F] in
theorem read_x (f : (cc0_stg0_0 : Ref sig .tc).ty.Contents (Elt F)) :
    (Memref.whole cc0_stg0_0 : Memref sig .tc .vmem S1024x512 .bf16).view.readAt (Elt F)
      (Rect.unit ![0, 0] S1024x512.size inb_S1024x512_S1024x512_0_0).toLoadRect f = f := Memref.readAt_unit_zero (Elt F) cc0_stg0_0 hz _ f
omit [FloatOps F] in
theorem read_r (f : (cc0_stg1_0 : Ref sig .tc).ty.Contents (Elt F)) :
    (Memref.whole cc0_stg1_0 : Memref sig .tc .vmem S1024x1 .i32).view.readAt (Elt F)
      (Rect.unit ![0, 0] S1024x1.size inb_S1024x1_S1024x1_0_0).toLoadRect f = f := Memref.readAt_unit_zero (Elt F) cc0_stg1_0 hz _ f
/-- The whole of a 1024×1024 buffer as a rectangle. -/
abbrev rAll : Rect S1024x1024 := Rect.unit ![0, 0] S1024x1024.size inb_S1024x1024_S1024x1024_0_0
omit [FloatOps F] in
theorem read_p (f : FVec F S1024x1024 .bf16) : (pM : Memref sig .tc .vmem S1024x1024 .bf16).view.readAt (Elt F) rAll.toLoadRect f = f :=
  Memref.readAt_unit_zero (Elt F) cc0_scratch0 hz _ f
omit [FloatOps F] in
theorem write_p (f w : FVec F S1024x1024 .bf16) :
    ((pM : Memref sig .tc .vmem S1024x1024 .bf16).access rAll : View sig .tc _ _ _).write (Elt F) f w Finset.univ = w :=
  Memref.write_access_unit_zero_univ (Elt F) cc0_scratch0 hz _ f w
omit [FloatOps F] in
theorem write_out (f w : (cc0_stg3_0 : Ref sig .tc).ty.Contents (Elt F)) :
    ((Memref.whole cc0_stg3_0 : Memref sig .tc .vmem S1024x1024 .f32).access rAll : View sig .tc _ _ _).write (Elt F) f w Finset.univ = w :=
  Memref.write_access_unit_zero_univ (Elt F) cc0_stg3_0 hz _ f w

omit [FloatOps F] in
theorem Hold_univ (c : Dev nD) (q) (f : FVec F S1024x1024 .bf16) :
    Hold c Finset.univ q f = ((pM.view.loc (c : Thread nD τ)) ↦[Finset.univ]{q} f : sProp 𝕄) := rfl
omit [FloatOps F] in
/-- Before the first stage, and after the last, a device holds all rows. -/
theorem Hold_all (c : Dev nD) (q) (f : FVec F S1024x1024 .bf16) :
    Hold c (part 0 c) q f = ((pM.view.loc (c : Thread nD τ)) ↦[Finset.univ]{q} f : sProp 𝕄) := by rw [part_zero]; rfl
/-- What is stored first is the partial of stage 0. -/
theorem Hold_start (c : Dev nD) :
    ((pM.view.loc (c : Thread nD τ)) ↦[Finset.univ]{fullShare} (A m ρ c) : sProp 𝕄) = Hold c (part 0 c) fullShare (Tm m ρ 0 c) :=
  (Hold_all c fullShare (A m ρ c)).symm

/-- On the rows kept to the end, the last stage's partial is the result. -/
theorem Hold_end (c : Dev nD) : Hold c (part 4 c) fullShare (Tm m ρ 4 c) = Hold c (part 4 c) fullShare (Wm m ρ) :=
  Hold_congr c fullShare (T_eq_W (A m ρ) c)

set_option maxHeartbeats 1600000 in
/-- The body, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold bodyPre ghost Creds Scratch
  iintro ⟨⟨⟨⟨#HR, HatB, Ht, HX⟩, ⟨HcB, Hc⟩, #Hlev, ⟨%f0, Hp⟩, Hb0, Hb1, Hb2, Hb3⟩,
    Ho, ⟨%dx, %gx, %hgx, Hx⟩, ⟨%dr, %gr, %hgr, Hr⟩, ⟨%de, %ge, %hge, He⟩, ⟨%dout, %gout, %hgout, Hout⟩⟩, Hk⟩
  have hx : gx = xstg m ρ c := by rw [hgx]; unfold Dat.before; rw [if_pos (fetch0_0 t₀)]; rfl
  have hr : gr = rstg m ρ c := by rw [hgr]; unfold Dat.before; rw [if_pos (fetch0_1 t₀)]; rfl
  have he : ge = estg m ρ c := by rw [hge]; unfold Dat.before; rw [if_pos (fetch0_2 t₀)]; rfl
  subst hx hr he
  unfold Dat.owesAt Pipeline.owesWithin
  icases Ho with ⟨%W, %hW, HO⟩
  rw [show (dats m ρ 0 c).owed t₀.castSucc = owesL (due c) from rfl]
  ihave HO : Owes c (due c) $$ [HO]
  · unfold Owes; iexists W; iexact HO
  ihave Ht := (Entails.of_eq (bigSep_fin4 _)) $$ Ht
  icases Ht with ⟨Ht0, Ht1, Ht2, Ht3⟩
  ihave HX := (xfers c) $$ [HX Hc]
  · isplitl [HX] <;> iassumption
  icases HX with ⟨HX0, HX1, HX2, HX3, HX4, HX5, HX6, HX7⟩
  -- the four arrivals
  iapply (wp_arrive m ρ K c 0 _ (dev1_eq c) _) $$ [HO Ht0 Hb0]
  · isplitr; · iexact HR
    isplitl [HO]; · iexact HO
    isplitl [Ht0] <;> iassumption
  iintro HO
  iapply (wp_arrive m ρ K c 2 _ (dev2_eq c) _) $$ [HO Ht2 Hb2]
  · isplitr; · iexact HR
    isplitl [HO]; · iexact HO
    isplitl [Ht2] <;> iassumption
  iintro HO
  iapply (wp_arrive m ρ K c 1 _ (dev3_eq c) _) $$ [HO Ht1 Hb1]
  · isplitr; · iexact HR
    isplitl [HO]; · iexact HO
    isplitl [Ht1] <;> iassumption
  iintro HO
  iapply (wp_arrive m ρ K c 3 _ (dev4_eq c) _) $$ [HO Ht3 Hb3]
  · isplitr; · iexact HR
    isplitl [HO]; · iexact HO
    isplitl [Ht3] <;> iassumption
  iintro HO
  -- the wait for the partners' arrivals, which bring their landing buffers
  iapply (wp_bar_wait m ρ K c) $$ [HcB HO HatB]
  · isplitr; · iexact HR
    isplitr; · iexact Hlev
    isplitl [HcB]; · iexact HcB
    isplitl [HO]; · iexact HO
    iexact HatB
  iintro ⟨HO, HatB, Hb0, Hb1, Hb2, Hb3⟩
  -- the device's own partial
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hr; iintro Hr
  rw [read_r]
  iapply (wp_load 𝒱₀ (c : Thread nD τ) none Set.univ (m := Memref.whole cc0_stg2_0) (Finset.subset_univ _)) $$ He; iintro He
  iapply (wp_load 𝒱₀ (c : Thread nD τ) none Set.univ (m := Memref.whole cc0_stg2_0) (Finset.subset_univ _)) $$ He; iintro He
  iapply (wp_load 𝒱₀ (c : Thread nD τ) none Set.univ (m := Memref.whole cc0_stg2_0) (Finset.subset_univ _)) $$ He; iintro He
  iapply (wp_load 𝒱₀ (c : Thread nD τ) none Set.univ (m := Memref.whole cc0_stg2_0) (Finset.subset_univ _)) $$ He; iintro He
  ihave Hp := (Entails.of_eq (Hold_univ c fullShare f0)) $$ Hp
  iapply (wp_load 𝒱₀ (c : Thread nD τ) none Set.univ (m := pM) (Finset.subset_univ _)) $$ Hp; iintro Hp
  iapply (wp_store 𝒱₀ (c : Thread nD τ) none Set.univ (m := pM) (r := rAll) (Mk := Finset.univ) (Finset.subset_univ _)) $$ Hp; iintro Hp
  rw [write_p]
  ihave Hp : Hold c (part 0 c) fullShare (Tm m ρ 0 c) $$ [Hp]
  · rw [← Hold_start m ρ c]; iexact Hp
  -- the reduction
  iapply (wp_reduce m ρ K c 0 (by decide) 0 rfl 0 1 rfl rfl rfl _ (dev5_eq c) ((off_send1 c).trans (off_keep1 (p 0 c))) (off_keep1 c)
    rfl rfl k0_pay8 (fun v w => shapeCast_self _ _)) $$ [Hp Hb0 HO HX0]
  · isplitr; · iexact HR
    isplitr; · iexact Hlev
    isplitl [Hp]; · iexact Hp
    isplitl [Hb0]; · iexact Hb0
    isplitl [HO] <;> iassumption
  iintro ⟨Hp, Hq0, Hb0, HO, HS0⟩
  iapply (wp_reduce m ρ K c 1 (by decide) 1 rfl 1 2 rfl rfl rfl _ (dev6_eq c) ((off_send2 c).trans (off_keep2 (p 1 c))) (off_keep2 c)
    rfl rfl k0_pay9 (fun v w => shapeCast_self _ _)) $$ [Hp Hb1 HO HX1]
  · isplitr; · iexact HR
    isplitr; · iexact Hlev
    isplitl [Hp]; · iexact Hp
    isplitl [Hb1]; · iexact Hb1
    isplitl [HO] <;> iassumption
  iintro ⟨Hp, Hq1, Hb1, HO, HS1⟩
  iapply (wp_reduce m ρ K c 2 (by decide) 2 rfl 2 3 rfl rfl rfl _ (dev7_eq c) ((off_send3 c).trans (off_keep3 (p 2 c))) (off_keep3 c)
    rfl rfl k0_pay10 (fun v w => shapeCast_self _ _)) $$ [Hp Hb2 HO HX2]
  · isplitr; · iexact HR
    isplitr; · iexact Hlev
    isplitl [Hp]; · iexact Hp
    isplitl [Hb2]; · iexact Hb2
    isplitl [HO] <;> iassumption
  iintro ⟨Hp, Hq2, Hb2, HO, HS2⟩
  iapply (wp_reduce m ρ K c 3 (by decide) 3 rfl 3 4 rfl rfl rfl _ (dev8_eq c) ((off_send4 c).trans (off_keep4 (p 3 c))) (off_keep4 c)
    rfl rfl k0_pay11 (fun v w => shapeCast_self _ _)) $$ [Hp Hb3 HO HX3]
  · isplitr; · iexact HR
    isplitr; · iexact Hlev
    isplitl [Hp]; · iexact Hp
    isplitl [Hb3]; · iexact Hb3
    isplitl [HO] <;> iassumption
  iintro ⟨Hp, Hq3, Hb3, HO, HS3⟩
  -- the rows kept to the end hold the result
  ihave Hp := (Entails.of_eq (Hold_end m ρ c)) $$ Hp
  -- the gathering
  iapply (wp_gather m ρ K c 4 0 1 rfl rfl 3 rfl 3 4 rfl rfl 4 5 rfl rfl _ (dev9_eq c) ((off_back4 c).trans (off_keep4 c))
    rfl rfl (Tm m ρ 3 (p 3 c))) $$ [Hp Hq3 HO HX4]
  · isplitr; · iexact HR
    isplitr; · iexact Hlev
    isplitl [Hp]; · iexact Hp
    isplitl [Hq3]; · iexact Hq3
    isplitl [HO] <;> iassumption
  iintro ⟨Hp, HB3, HO, HS4⟩
  iapply (wp_gather m ρ K c 5 1 2 rfl rfl 2 rfl 2 3 rfl rfl 5 6 rfl rfl _ (dev10_eq c) ((off_back3 c).trans (off_keep3 c))
    rfl rfl (Tm m ρ 2 (p 2 c))) $$ [Hp Hq2 HO HX5]
  · isplitr; · iexact HR
    isplitr; · iexact Hlev
    isplitl [Hp]; · iexact Hp
    isplitl [Hq2]; · iexact Hq2
    isplitl [HO] <;> iassumption
  iintro ⟨Hp, HB2, HO, HS5⟩
  iapply (wp_gather m ρ K c 6 2 3 rfl rfl 1 rfl 1 2 rfl rfl 6 7 rfl rfl _ (dev11_eq c) ((off_back2 c).trans (off_keep2 c))
    rfl rfl (Tm m ρ 1 (p 1 c))) $$ [Hp Hq1 HO HX6]
  · isplitr; · iexact HR
    isplitr; · iexact Hlev
    isplitl [Hp]; · iexact Hp
    isplitl [Hq1]; · iexact Hq1
    isplitl [HO] <;> iassumption
  iintro ⟨Hp, HB1, HO, HS6⟩
  iapply (wp_gather m ρ K c 7 3 4 rfl rfl 0 rfl 0 1 rfl rfl 7 8 rfl rfl _ (dev12_eq c) ((off_back1 c).trans (off_keep1 c))
    rfl rfl (Tm m ρ 0 (p 0 c))) $$ [Hp Hq0 HO HX7]
  · isplitr; · iexact HR
    isplitr; · iexact Hlev
    isplitl [Hp]; · iexact Hp
    isplitl [Hq0]; · iexact Hq0
    isplitl [HO] <;> iassumption
  iintro ⟨Hp, HB0, HO, HS7⟩
  -- the result, widened and stored
  ihave Hp := (Entails.of_eq (Hold_all c (sh 4) (Wm m ρ))) $$ Hp
  iapply (wp_load 𝒱₀ (c : Thread nD τ) none Set.univ (m := pM) (Finset.subset_univ _)) $$ Hp; iintro Hp
  rw [read_p]
  iapply (wp_load 𝒱₀ (c : Thread nD τ) none Set.univ (m := Memref.whole cc0_stg3_0) (Finset.subset_univ _)) $$ Hout; iintro Hout
  iapply (wp_store 𝒱₀ (c : Thread nD τ) none Set.univ (m := Memref.whole cc0_stg3_0) (r := rAll) (Mk := Finset.univ) (Finset.subset_univ _)) $$ Hout; iintro Hout
  rw [write_out]
  ihave Hp := (Entails.of_eq (Hold_all c (sh 4) (Wm m ρ)).symm) $$ Hp
  -- the copies' sources are free again
  iapply (wp_send_wait m ρ K c 0 0 rfl _ rfl) $$ [HO HS0]
  · isplitr; · iexact HR
    isplitl [HO]; · iexact HO
    iexact HS0
  iintro ⟨HO, HZ0, -⟩
  iapply (wp_send_wait m ρ K c 1 1 rfl _ rfl) $$ [HO HS1]
  · isplitr; · iexact HR
    isplitl [HO]; · iexact HO
    iexact HS1
  iintro ⟨HO, HZ1, -⟩
  iapply (wp_send_wait m ρ K c 2 2 rfl _ rfl) $$ [HO HS2]
  · isplitr; · iexact HR
    isplitl [HO]; · iexact HO
    iexact HS2
  iintro ⟨HO, HZ2, -⟩
  iapply (wp_send_wait m ρ K c 3 3 rfl _ rfl) $$ [HO HS3]
  · isplitr; · iexact HR
    isplitl [HO]; · iexact HO
    iexact HS3
  iintro ⟨HO, HZ3, -⟩
  iapply (wp_send_wait m ρ K c 4 3 rfl _ rfl) $$ [HO HS4]
  · isplitr; · iexact HR
    isplitl [HO]; · iexact HO
    iexact HS4
  iintro ⟨HO, HZ4, HL4⟩
  iapply (wp_send_wait m ρ K c 5 2 rfl _ rfl) $$ [HO HS5]
  · isplitr; · iexact HR
    isplitl [HO]; · iexact HO
    iexact HS5
  iintro ⟨HO, HZ5, HL5⟩
  iapply (wp_send_wait m ρ K c 6 1 rfl _ rfl) $$ [HO HS6]
  · isplitr; · iexact HR
    isplitl [HO]; · iexact HO
    iexact HS6
  iintro ⟨HO, HZ6, HL6⟩
  iapply (wp_send_wait m ρ K c 7 0 rfl _ rfl) $$ [HO HS7]
  · isplitr; · iexact HR
    isplitl [HO]; · iexact HO
    iexact HS7
  iintro ⟨HO, HZ7, HL7⟩
  ihave Hp := (unwind m ρ c 7 3 4 rfl rfl 0 rfl 0 1 rfl rfl) $$ [Hp HB0 HL7]
  · isplitl [Hp]; · iexact Hp
    isplitl [HB0] <;> iassumption
  icases Hp with ⟨Hp, Hq0⟩
  ihave Hp := (unwind m ρ c 6 2 3 rfl rfl 1 rfl 1 2 rfl rfl) $$ [Hp HB1 HL6]
  · isplitl [Hp]; · iexact Hp
    isplitl [HB1] <;> iassumption
  icases Hp with ⟨Hp, Hq1⟩
  ihave Hp := (unwind m ρ c 5 1 2 rfl rfl 2 rfl 2 3 rfl rfl) $$ [Hp HB2 HL5]
  · isplitl [Hp]; · iexact Hp
    isplitl [HB2] <;> iassumption
  icases Hp with ⟨Hp, Hq2⟩
  ihave Hp := (unwind m ρ c 4 0 1 rfl rfl 3 rfl 3 4 rfl rfl) $$ [Hp HB3 HL4]
  · isplitl [Hp]; · iexact Hp
    isplitl [HB3] <;> iassumption
  icases Hp with ⟨Hp, Hq3⟩
  ihave Hp := (Hold_part 3 c c fullShare (Wm m ρ)).2 $$ [Hp Hq3]
  · isplitl [Hp]; · iexact Hp
    iexact Hq3
  ihave Hp := (Hold_part 2 c c fullShare (Wm m ρ)).2 $$ [Hp Hq2]
  · isplitl [Hp]; · iexact Hp
    iexact Hq2
  ihave Hp := (Hold_part 1 c c fullShare (Wm m ρ)).2 $$ [Hp Hq1]
  · isplitl [Hp]; · iexact Hp
    iexact Hq1
  ihave Hp := (Hold_part 0 c c fullShare (Wm m ρ)).2 $$ [Hp Hq0]
  · isplitl [Hp]; · iexact Hp
    iexact Hq0
  -- every cell closes
  imod (close_xfers m ρ K c) $$ [HZ0 HZ1 HZ2 HZ3 HZ4 HZ5 HZ6 HZ7] with HZ
  · isplitr; · iexact HR
    rw [bigSep_fin8]
    isplitl [HZ0]; · iexact HZ0
    isplitl [HZ1]; · iexact HZ1
    isplitl [HZ2]; · iexact HZ2
    isplitl [HZ3]; · iexact HZ3
    isplitl [HZ4]; · iexact HZ4
    isplitl [HZ5]; · iexact HZ5
    isplitl [HZ6]; · iexact HZ6
    iexact HZ7
  imod (close_bar m ρ K c) $$ [HatB] with HzB
  · isplitr; · iexact HR
    iexact HatB
  rw [wp_ret]; imodintro
  iapply Hk
  unfold bodyPost Φ₁ Scratch Dat.owesAt Pipeline.owesWithin Owes
  rw [show (dats m ρ 0 c).owed t₀.succ = 0 from rfl]
  icases HO with ⟨%W', HO⟩
  isplitl [Hp Hb0 Hb1 Hb2 Hb3 HZ HzB]
  · isplitl [Hp Hb0 Hb1 Hb2 Hb3]
    · isplitl [Hp]; · iexists (Wm m ρ); rw [← part_zero c]; iexact Hp
      isplitl [Hb0]; · iexact Hb0
      isplitl [Hb1]; · iexact Hb1
      isplitl [Hb2] <;> iassumption
    isplitl [HzB] <;> iassumption
  isplitl [HO]
  · iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [He]
  · iexists _; isplitr; · (ipureintro; rfl)
    iexact He
  iexists _; isplitr; · (ipureintro; rfl)
  iexact Hout

end Body

end Cert.KernelIdeal.Dispatch

end
-- ==== Proof.KernelIdealLaunch.lean ====
module

public import proofs.«01_k».proof.Proof.KernelIdealBody
public import Idealize.ShloMosaic.Lib.Pipeline.CollectiveSegs
public import Idealize.ShloMosaic.Lib.Quiescent

/-!
The launch of the kernel on sixteen devices: the protocol's cells and duties minted, the duties dealt to the
devices that pay them, what every device owes matched with what the others wait for, and the run of the whole program.
-/

@[expose] public section

set_option maxRecDepth 16384

noncomputable section

namespace Cert.KernelIdeal.Dispatch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

def bodyPre' (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

/-- What the pipeline asks of the body on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) cc0_scratch5 cc0_scratch6) (fun _ => bodyPost m ρ c)
  unfold bodyPre' Φ₀
  iintro ⟨⟨⟨%K, Hg⟩, Hrest⟩, Ho, Hw⟩
  iapply (sound_body m ρ K c fun _ => bodyPost m ρ c)
  unfold bodyPre
  isplitr []
  · isplitl [Hg Hrest]
    · isplitl [Hg] <;> iassumption
    isplitl [Ho] <;> iassumption
  · iintro H; iexact H

/-! ## Cells, duties, and who pays them -/

/-- The kernel's own semaphores: the send ones and the receive ones. -/
abbrev osem : Fin 8 ⊕ Fin 8 → SemLoc sig
  | .inl i => .dma (sendS i)
  | .inr i => .dma (recvS i)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × CellIx → GSem nD τ sig) := by
  rintro ⟨c, j⟩ ⟨c', j'⟩ h
  exact Prod.ext (congrArg (fun g : GSem nD τ sig => g.1.1) h) (csem_injective (congrArg Prod.snd h))
def allCells : Finset (GSem nD τ sig) := Finset.univ.map ⟨kcell, kcell_injective⟩

/-- A device's duties: four on its barrier cell, one on each send cell, one on each receive cell. -/
abbrev DutyIx : Type := Fin 4 ⊕ Fin 8 ⊕ Fin 8
abbrev dutyOf : DutyIx → SemLoc sig × Fin 4
  | .inl k => (.reg barS, k)
  | .inr (.inl i) => (.dma (sendS i), 0)
  | .inr (.inr i) => (.dma (recvS i), 0)
theorem dutyOf_injective : Function.Injective dutyOf := by decide
abbrev tokOf (cj : Dev nD × DutyIx) : GSem nD τ sig × ℕ × Fin 4 := (((cj.1 : Thread nD τ), (dutyOf cj.2).1), 0, (dutyOf cj.2).2)
theorem tokOf_injective : Function.Injective (tokOf : Dev nD × DutyIx → GSem nD τ sig × ℕ × Fin 4) := by
  rintro ⟨c, j⟩ ⟨c', j'⟩ h
  exact Prod.ext (congrArg (fun x : GSem nD τ sig × ℕ × Fin 4 => x.1.1.1) h)
    (dutyOf_injective (congrArg (fun x : GSem nD τ sig × ℕ × Fin 4 => (x.1.2, x.2.2)) h))
def allToks : Finset (GSem nD τ sig × ℕ × Fin 4) := Finset.univ.map ⟨tokOf, tokOf_injective⟩

def u₀ : UU :=
  (initOf (Pipeline.cells cfgs cellOf_inj) (Pipeline.launchToks cfgs cellOf_inj), initOf allCells allToks)

/-- The duties of device `c`'s own cells. -/
def toks (c : Dev nD) : sProp 𝕄 :=
  iprop((bigSep Finset.univ fun k : Fin 4 => dutyTok ER (barCell c) 0 k)
    ∗ (bigSep Finset.univ fun i : Fin 8 => dutyTok ER (sendCell i c) 0 (0 : Fin 4))
    ∗ bigSep Finset.univ fun i : Fin 8 => dutyTok ER (recvCell i c) 0 (0 : Fin 4))
/-- The duties device `c` pays. -/
def payToks (c : Dev nD) : sProp 𝕄 :=
  iprop((bigSep Finset.univ fun k : Fin 4 => dutyTok ER (barCell (p k c)) 0 k)
    ∗ (bigSep Finset.univ fun i : Fin 8 => dutyTok ER (sendCell i c) 0 (0 : Fin 4))
    ∗ bigSep Finset.univ fun i : Fin 8 => dutyTok ER (recvCell i (p (st i) c)) 0 (0 : Fin 4))

/-- What the launch deals device `c`: its cells' state at round 0, its positions there, its cells' duties. -/
def G (c : Dev nD) : sProp 𝕄 :=
  iprop((bigSep Finset.univ fun j : CellIx => roundState ER (sched m ρ) (kcell (c, j)) 0)
    ∗ (bigSep Finset.univ fun j : CellIx => iprop(atPos ER (kcell (c, j)) 0 ∅ 0 ∗ reached ER (kcell (c, j)) 0)) ∗ toks c)
/-- What it has once the cells are shared and the duties are with those who pay them. -/
def G' (c : Dev nD) : sProp 𝕄 := iprop(∃ K, ghost m ρ K c)

omit [FloatOps F] in
theorem bigSep_cells (Φ : CellIx → sProp 𝕄) :
    bigSep Finset.univ Φ = iprop(Φ bj ∗ (bigSep Finset.univ fun i => Φ (sj i)) ∗ bigSep Finset.univ fun i => Φ (rj i)) := by
  rw [bigSep_univ_sum, bigSep_univ_sum, Finset.univ_unique, bigSep_singleton]; rfl

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun j : CellIx => Φ (kcell (c, j)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by rw [bigSep_univ_sum, bigSep_univ_sum]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun i : Fin 8 => semVal (sendCell i c) 0) ∗ bigSep Finset.univ fun i : Fin 8 => semVal (recvCell i c) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : CellIx => semVal (kcell (c, j)) 0 : sProp 𝕄) := by
  rw [ownSems0_eq, unscopedSems0_eq, bigSep_cells]
  iintro ⟨HSV, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j => iprop(∃ κ : ℕ, cellInv ER (sched m ρ) κ (kcell (c, j))))
          ∗ (bigSep Finset.univ fun j => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : CellIx => semVal (kcell (c, j)) 0) ∗ bigSep Finset.univ fun j : CellIx => roundState ER (sched m ρ) (kcell (c, j)) 0)
      ⊢ (|={Set.univ}=> bigSep Finset.univ fun j => iprop(∃ κ : ℕ, cellInv ER (sched m ρ) κ (kcell (c, j))) : sProp 𝕄) from by
        rw [← bigSep_sep']
        exact (bigSep_mono fun j _ => (Rounds.body_intro ER (sched m ρ) (kcell (c, j))).trans inv_alloc).trans (bigSep_fupd _ _)) $$ [Hv Hst] with Hinv
  · isplitl [Hv] <;> iassumption
  imodintro
  isplitl [Hinv]; · iexact Hinv
  isplitl [Hat] <;> iassumption

omit [FloatOps F] in
/-- Duties that are on each device's cells, one for each partner map, are as well on the partners' cells. -/
theorem around {I : Type} [Fintype I] [DecidableEq I] (f : I → Fin 4) (Φ : I → Dev nD → sProp 𝕄) :
    (bigSep Finset.univ fun c : Dev nD => bigSep Finset.univ fun i : I => Φ i c)
      = bigSep Finset.univ fun c : Dev nD => bigSep Finset.univ fun i : I => Φ i (p (f i) c) := by
  have swap (Ψ : I → Dev nD → sProp 𝕄) : (bigSep Finset.univ fun c : Dev nD => bigSep Finset.univ fun i : I => Ψ i c)
      = bigSep Finset.univ fun i : I => bigSep Finset.univ fun c : Dev nD => Ψ i c := by
    rw [← bigSep_univ_prod (fun ci : Dev nD × I => Ψ ci.2 ci.1), ← bigSep_univ_prod (fun ic : I × Dev nD => Ψ ic.1 ic.2)]
    exact bigSep_univ_equiv (Equiv.prodComm I (Dev nD)) _
  rw [swap, swap]
  exact bigSep_congr fun i _ => bigSep_univ_equiv (pe (f i)) (Φ i)

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep', around (fun k => k) fun (k : Fin 4) c => (dutyTok ER (barCell c) 0 k : sProp 𝕄),
    around st fun (i : Fin 8) c => (dutyTok ER (recvCell i c) 0 (0 : Fin 4) : sProp 𝕄)]

/-- What stays with device `c`: its positions, and the duties it pays. -/
def linear (c : Dev nD) : sProp 𝕄 := iprop((bigSep Finset.univ fun j : CellIx => atPos ER (kcell (c, j)) 0 ∅ 0) ∗ payToks c)

theorem ghost_intro (K : Dev nD × CellIx → ℕ) (c : Dev nD) : iprop(records m ρ K ∗ linear c) ⊢ G' m ρ c := by
  unfold linear payToks G' ghost
  rw [bigSep_cells]
  iintro ⟨HR, ⟨HaB, HaS, HaV⟩, HtB, HtS, HtV⟩
  iexists K
  isplitl [HR]; · iexact HR
  isplitl [HaB]; · iexact HaB
  isplitl [HtB]; · iexact HtB
  unfold Duties
  rw [bigSep_sep', bigSep_sep', bigSep_sep']
  isplitl [HaS]; · iexact HaS
  isplitl [HaV]; · iexact HaV
  isplitl [HtS] <;> iassumption

theorem regroup :
    (bigSep Finset.univ fun c : Dev nD => iprop((bigSep Finset.univ fun j => iprop(∃ κ : ℕ, cellInv ER (sched m ρ) κ (kcell (c, j))))
          ∗ (bigSep Finset.univ fun j => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun cj : Dev nD × CellIx => iprop(∃ κ : ℕ, cellInv ER (sched m ρ) κ (kcell cj))),
    bigSep_congr (s := Finset.univ) (fun (c : Dev nD) _ => bigSep_sep' Finset.univ (fun j : CellIx => (atPos ER (kcell (c, j)) 0 ∅ 0 : sProp 𝕄)) (fun j => reached ER (kcell (c, j)) 0)),
    bigSep_sep', ← bigSep_univ_prod (fun cj : Dev nD × CellIx => (reached ER (kcell cj) 0 : sProp 𝕄)), toks_around]
  iintro ⟨HI, ⟨Hat, #HR⟩, Htok⟩
  ihave HK := (BI.bigSep_exists_pi Finset.univ (fun (cj : Dev nD × CellIx) (κ : ℕ) => (cellInv ER (sched m ρ) κ (kcell cj) : sProp 𝕄))) $$ HI
  icases HK with ⟨%K, #HI⟩
  iapply (bigSep_with_persistent (R := records m ρ K) fun c _ => ghost_intro m ρ K c)
  isplitr
  · unfold records; isplitl; · iexact HI
    iexact HR
  · unfold linear
    rw [bigSep_sep']
    isplitl [Hat] <;> iassumption

/-- All devices' semaphores at once: the cells are shared, the duties dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What every device owes, by semaphore, partner map and amount. -/
def dueL : List (SemLoc sig × Fin 4 × ℕ) :=
  ([0, 2, 1, 3] : List (Fin 4)).map (fun k => (SemLoc.reg barS, k, 1)) ++ (List.finRange 8).map fun i => (SemLoc.dma (recvS i), st i, cr (st i))

theorem due_eq (d : Dev nD) : due d = dueL.map fun x => (((p x.2.1 d : Thread nD τ), x.1), x.2.2) := by
  unfold due dueL dueRecv
  rw [List.map_append, List.map_map, List.map_map]
  rfl

omit [FloatOps F] in
/-- Whatever the devices owe their partners, each is owed by its own: partner maps are their own inverses. -/
theorem launchCred_list (c : Dev nD) (l : List (SemLoc sig × Fin 4 × ℕ)) :
    (Pipeline.launchCred (fun d => owesL (l.map fun x => (((p x.2.1 d : Thread nD τ), x.1), x.2.2))) c : sProp 𝕄)
      ⊢ l.foldr (fun x P => iprop(cred (tallyAt ((c : Thread nD τ), x.1) () x.2.2) ∗ P)) iprop(emp) := by
  induction l with
  | nil => exact Entails.of_eq (Pipeline.launchCred_zero c)
  | cons x l ih =>
    rw [show (fun d : Dev nD => owesL ((x :: l).map fun x => (((p x.2.1 d : Thread nD τ), x.1), x.2.2)))
        = fun d => owesL (l.map fun x => (((p x.2.1 d : Thread nD τ), x.1), x.2.2)) + tallyAt ((p x.2.1 d : Thread nD τ), x.1) () x.2.2 from rfl,
      Pipeline.launchCred_add]
    rw [List.foldr_cons]
    iintro ⟨Hl, Hx⟩
    isplitl [Hx]
    · iapply (Pipeline.launchCred_tallyAt x.1 (p x.2.1) (p x.2.1) (p_p x.2.1) (p_p x.2.1) () x.2.2 c); iexact Hx
    · iapply ih; iexact Hl

omit [FloatOps F] in
theorem cred_bar (c : Dev nD) :
    iprop(cred (tallyAt (barCell c) () 1) ∗ cred (tallyAt (barCell c) () 1) ∗ cred (tallyAt (barCell c) () 1) ∗ cred (tallyAt (barCell c) () 1))
      ⊢ (cred (tallyAt (barCell c) () 4) : sProp 𝕄) := by
  rw [show (tallyAt (barCell c) () 4 : CellTallies nD τ sig Unit) = tallyAt (barCell c) () (1 + (1 + (1 + 1))) from rfl,
    ← tallyAt_add, ← tallyAt_add, ← tallyAt_add]
  refine .trans ?_ (cred_add _ _).2
  refine sep_mono_right (.trans ?_ (cred_add _ _).2)
  exact sep_mono_right (cred_add _ _).2

omit [FloatOps F] in
theorem creds (c : Dev nD) : (Pipeline.launchCred (fun d => owesL (due d)) c : sProp 𝕄) ⊢ Creds c := by
  rw [show (fun d : Dev nD => owesL (due d)) = fun d => owesL (dueL.map fun x => (((p x.2.1 d : Thread nD τ), x.1), x.2.2)) from
    funext fun d => by rw [due_eq]]
  refine (launchCred_list c dueL).trans ?_
  unfold Creds
  rw [bigSep_fin8]
  show iprop(cred (tallyAt (barCell c) () 1) ∗ cred (tallyAt (barCell c) () 1) ∗ cred (tallyAt (barCell c) () 1) ∗ cred (tallyAt (barCell c) () 1)
    ∗ cred (tallyAt (recvCell 0 c) () (cr (st 0))) ∗ cred (tallyAt (recvCell 1 c) () (cr (st 1))) ∗ cred (tallyAt (recvCell 2 c) () (cr (st 2)))
    ∗ cred (tallyAt (recvCell 3 c) () (cr (st 3))) ∗ cred (tallyAt (recvCell 4 c) () (cr (st 4))) ∗ cred (tallyAt (recvCell 5 c) () (cr (st 5)))
    ∗ cred (tallyAt (recvCell 6 c) () (cr (st 6))) ∗ cred (tallyAt (recvCell 7 c) () (cr (st 7))) ∗ emp) ⊢ _
  iintro ⟨B0, B1, B2, B3, H0, H1, H2, H3, H4, H5, H6, H7, -⟩
  isplitl [B0 B1 B2 B3]
  · iapply (cred_bar (F := F) c)
    isplitl [B0]; · iexact B0
    isplitl [B1]; · iexact B1
    isplitl [B2] <;> iassumption
  isplitl [H0]; · iexact H0
  isplitl [H1]; · iexact H1
  isplitl [H2]; · iexact H2
  isplitl [H3]; · iexact H3
  isplitl [H4]; · iexact H4
  isplitl [H5]; · iexact H5
  isplitl [H6] <;> iassumption

/-! ## The launch theorem's side conditions -/

/-- What device `c` enters the kernel with; -/
def start (c : Dev nD) : sProp 𝕄 := iprop(G' m ρ c ∗ Creds c ∗ levAts L lv)
/-- and the array no window stages, which it carries past the kernel. -/
def aside (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred (fun d => owesL (due d)) c ∗ prngReg c (ρ c) ∗ G' m ρ c)
      ⊢ |={Set.univ}=> iprop(start m ρ c ∗ aside m c) := by
  rw [Pipeline.unscopedRestP_none]
  iintro ⟨Hu, Hlev, Hcr, -, HG⟩
  ihave Hu := (Entails.of_eq (unscopedRest0_eq c fun b => m ((c : Thread nD τ).loc b))) $$ Hu
  ihave Hc := (creds (F := F) c) $$ Hcr
  imodintro
  unfold start aside
  isplitr [Hu]
  · isplitl [HG]; · iexact HG
    isplitl [Hc] <;> iassumption
  · iexact Hu

omit [FloatOps F] in
theorem bufAny_eq (k : Fin 4) (c : Dev nD) :
    bufAny k c = (iprop(∃ f : Buf (Elt F) ((dM k).view.loc (c : Thread nD τ)), ((dM k).view.loc (c : Thread nD τ)) ↦{fullShare} f) : sProp 𝕄) := by
  unfold bufAny bufPts
  simp only [dM_set]

omit [FloatOps F] in
/-- The scratch buffers, each whole, are the partial sum's rows and the four landing buffers. -/
theorem scratch_eq (c : Dev nD) : (Pipeline.scopedRest (Ix := Unit) (Name := ℕ) (U := UU) (Lvl := ℕ) (Val := Elt F) cfg0.spec c : sProp 𝕄) = Scratch c := by
  refine (scopedRest0_eq c).trans ?_
  unfold Scratch
  rw [bufAny_eq, bufAny_eq, bufAny_eq, bufAny_eq]
  rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold start Φ₀ G'
  iintro ⟨⟨HG, HC, HL⟩, -, Hr⟩
  ihave Hr := (Entails.of_eq (scratch_eq c)) $$ Hr
  isplitl [HG]; · iexact HG
  isplitl [HC]; · iexact HC
  isplitl [HL] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  unfold Φ₁
  rw [bigSep_sep']
  iintro ⟨Hr, HzB, Hz⟩
  ihave Hr := (Entails.of_eq (scratch_eq c).symm) $$ Hr
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by revert w s; decide)
    · show (levAts L lv : sProp 𝕄) ⊢ MayWait (c : Thread nD τ) _ () 0
      rw [MayWait_zero]; iintro -; iempintro

/-! ## The run -/

/-- Window `w`'s array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- On the sixteen devices, for any float values, from any memory with zero counters: every weakly fair execution
    terminates without fault, with each device's arrays at the contents computed, and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owesL (due d)) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := aside m)
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold aside
      iintro ⟨Hu, Ha, HSI⟩
      ihave %ha := (SI_pointsTo_agree) $$ [HSI Ha]
      · isplitl [HSI] <;> iassumption
      imod (Pipeline.unscopedSems0_read (X := unscopedSems0 c) (c := c) fupd_intro s') $$ [Hu HSI] with ⟨%hs, HSI⟩
      · isplitl [Hu] <;> iassumption
      imodintro
      isplitr
      · ipureintro; exact ⟨funext fun i => ha i (Finset.mem_univ i), hs⟩
      · iexact HSI)
    (hQ := fun _ h hs => ⟨fun c => ⟨fun w => (h c).1 w, (h c).2.2.1⟩, sem_eq_zero hs fun c => (h c).2.2.2⟩)

/-- A window on a whole array has one block, the array itself, index for index. -/
theorem blk_emb {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole) (i : s.Idx) :
    ((Pipeline.Window.whole arr isOut sync stage sem harr hstage).blk (0 : Fin 1)).view.emb i = arr.view.emb i := by
  show arr.view.emb _ = _
  refine congrArg arr.view.emb (funext fun a => Fin.ext ?_)
  show 0 * s.size a + 1 * (i a).val = _
  omega

/-- The result array is written back whole, at the one grid point. -/
theorem final_out (c : Dev nD) : finalA m ρ c (3 : Fin 4) = outAt m ρ :=
  (dats m ρ 0 c).arrAt_eq_of_cover (3 : Fin 4) (outAt m ρ)
    (fun t _ => by
      rw [fin_N t]
      funext i
      show outAt m ρ _ = outAt m ρ _
      exact congrArg _ (blk_emb (Memref.whole main_v1) true false (stage0_3 0) (sem0_3 0) (Memref.isWhole_whole _) (hstage0_3 0) i).symm)
    fun i => ⟨t₀, flush0_3 _, Finset.mem_map.mpr ⟨i, Finset.mem_univ _, blk_emb (Memref.whole main_v1) true false (stage0_3 0) (sem0_3 0) (Memref.isWhole_whole _) (hstage0_3 0) i⟩⟩

/-- The run in the program's own terms: every device's result array holds the reduced result, its arguments what they
    held, and every semaphore counter reads zero. -/
theorem run : θ_run defs (onTc (τ := τ) (main (F := F))) (s₀ m ρ) (fun r => (∀ c : Dev nD,
      r.2.mem ((c : Thread nD τ).loc main_v1) = outAt m ρ
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun _ h => ⟨fun c =>
    ⟨((h.1 c).1 (3 : Fin 4)).trans (final_out m ρ c), ((h.1 c).1 (0 : Fin 4)).trans ((dats m ρ 0 c).arrAt_in (0 : Fin 4) rfl _), (h.1 c).2,
      ((h.1 c).1 (1 : Fin 4)).trans ((dats m ρ 0 c).arrAt_in (1 : Fin 4) rfl _), ((h.1 c).1 (2 : Fin 4)).trans ((dats m ρ 0 c).arrAt_in (2 : Fin 4) rfl _)⟩, h.2⟩)
    (run_main m ρ)

end Cert.KernelIdeal.Dispatch

end
-- ==== Proof.KernelIdealValue.lean ====
/- What the kernel's launch leaves on every device, over the exact values: row `t` of the result is the sum over all
   sixty-four experts of the expert's product with token `t`, counted where the token's routing index names the expert.

   A device's own partial counts its four experts (`partial_at`). The four reduce-scatter stages add sixteen devices'
   partials, each once (`T_four`). Together that is the sum over the experts (`outAt_at`). -/
module

public import proofs.«01_k».proof.Proof.KernelIdealLaunch
public import Idealize.ShloMosaic.Lib.MatmulPlain
public import Idealize.ShloMosaic.Lib.IdealHost
public import Idealize.ShloMosaic.Lib.LayoutAt
public import Idealize.ShloMosaic.Lib.ValueLayout
public import Idealize.ShloMosaic.Lib.StableHlo.Predicate

@[expose] public section

noncomputable section

namespace Cert.KernelIdeal.Dispatch

open Cert.KernelIdeal Cert.KernelIdeal.Gen Idealize Idealize.ShloMosaic Idealize.ShloMosaic.ValueIdx
open scoped BigOperators

/-! ## The reduction adds sixteen partials -/

/-- The devices whose partials are in device `c`'s after `k` stages. -/
def gathered : ℕ → Dev nD → Finset (Dev nD)
  | 0, c => {c}
  | k + 1, c => gathered k c ∪ gathered k (p (Fin.ofNat 4 k) c)

theorem gathered_disjoint (k : Fin 4) (c : Dev nD) : Disjoint (gathered k c) (gathered k (p k c)) := by revert k c; decide

theorem gathered_four (c : Dev nD) : gathered 4 c = Finset.univ := by revert c; decide

/-- After `k` stages an entry of a device's partial is the sum of the gathered devices' own entries. -/
theorem T_sum (A : Dev nD → FVec Ideal S1024x1024 .bf16) (i : PIdx) (k : ℕ) (hk : k ≤ 4) (c : Dev nD) :
    T A k c i = ∑ d ∈ gathered k c, (A d i : EReal) := by
  induction k generalizing c with
  | zero => exact (Finset.sum_singleton _ _).symm
  | succ k ih =>
    have hm : (Fin.ofNat 4 k).val = k := Nat.mod_eq_of_lt (by omega)
    have hd := gathered_disjoint (Fin.ofNat 4 k) c
    rw [hm] at hd
    show (T A k c i + T A k (p (Fin.ofNat 4 k) c) i : EReal) = ∑ d ∈ gathered k c ∪ gathered k (p (Fin.ofNat 4 k) c), (A d i : EReal)
    rw [Finset.sum_union hd, ih (by omega), ih (by omega)]

/-- An entry of the reduced result is the sum of all devices' own entries. -/
theorem W_sum (A : Dev nD → FVec Ideal S1024x1024 .bf16) (i : PIdx) : W A i = ∑ d, (A d i : EReal) := by
  show T A 4 _ i = _
  rw [T_sum A i 4 le_rfl, gathered_four]

/-! ## A device's own partial -/

/-- What expert weights `e` contribute to row `t` and column `o` if the routing index `w` is theirs. -/
def share (x : FVec Ideal S1024x512 .bf16) (r : IVec S1024x1 32) (w : BitVec 32) (e : Fin 512 → Fin 1024 → EReal)
    (t o : Fin 1024) : EReal :=
  if r (ix2 t (0 : Fin 1)) = w then ∑ k : Fin 512, (x (ix2 t k) : EReal) * e k o else 0

/-- One expert's product: the tokens routed elsewhere are zeroed before it, so their rows are zero. -/
theorem product_at (x : FVec Ideal S1024x512 .bf16) (r : IVec S1024x1 32) (w : BitVec 32) (e : Vec Ideal S1x512x1024 .bf16)
    (t o : Fin 1024) :
    matmul (F := Ideal) (φ₂ := .bf16) dot_S1024x512_S512x1024_S1024x1024_1_0_0_1_n_n none
      (select (broadcastTo S1024x512 (shapeCast S1024x1 (cmpi .eq r (broadcast S1024x1 w)) shapeCasts_S1024x1_S1024x1)
        broadcasts_S1024x1_S1024x512) x (broadcast S1024x512 (Scalar.ofBits .bf16 0x0000#16)))
      (shapeCast S512x1024 e shapeCasts_S1x512x1024_S512x1024) (constant S1024x1024 .f32 0x00000000#32) (ix2 t o)
    = share x r w (fun k o => e (ix3 (0 : Fin 1) k o)) t o := by
  refine (Ideal.matmul_plain_apply none _ _ _ t o).trans ?_
  have h0 : (constant (F := Ideal) S1024x1024 .f32 0x00000000#32 (ix2 t o) : EReal) = 0 := Ideal.ofBits_zero_f32
  rw [h0, zero_add]
  have hw (k : Fin 512) : shapeCast S512x1024 e shapeCasts_S1x512x1024_S512x1024 (ix2 k o) = e (ix3 (0 : Fin 1) k o) :=
    shapeCast_1ab_ab_apply _ _ k o
  have hc (k : Fin 512) : broadcastTo S1024x512 (shapeCast S1024x1 (cmpi .eq r (broadcast S1024x1 w)) shapeCasts_S1024x1_S1024x1)
      broadcasts_S1024x1_S1024x512 (ix2 t k) = IntOp.cmpi .eq (r (ix2 t (0 : Fin 1))) w := by
    rw [shapeCast_self]
    exact broadcastTo_apply _ _ _ (ix2 t (0 : Fin 1)) fun a => by
      fin_cases a
      · exact (if_neg (by decide : ¬ (1024 : ℕ) = 1)).symm
      · exact (if_pos rfl).symm
  have hz : (Scalar.ofBits .bf16 0x0000#16 : Ideal .bf16) = (0 : EReal) := Ideal.ofBits_zero_bf16
  unfold share
  by_cases h : r (ix2 t (0 : Fin 1)) = w
  · rw [if_pos h]
    refine Finset.sum_congr rfl fun k _ => ?_
    rw [select_apply, hc, hw, StableHlo.Predicate.cmpi_eq_iff.mpr h, select_one]
  · rw [if_neg h]
    refine Finset.sum_eq_zero fun k _ => ?_
    rw [select_apply, hc, eq_zero_of_ne_one (fun h' => h (StableHlo.Predicate.cmpi_eq_iff.mp h')), select_zero]
    show ((Scalar.ofBits .bf16 0x0000#16 : Ideal .bf16) : EReal) * _ = 0
    rw [hz, zero_mul]

/-- The routing index device `c` compares with for its expert `j`. -/
theorem word_eq (c : Dev nD) (j : Fin 4) :
    Scalar.addi (Scalar.muli (Scalar.remsi (Scalar.divsi (Dev.word c) 1#32) 16#32) 4#32) (BitVec.ofNat 32 j.val)
      = BitVec.ofNat 32 (j.val + 4 * c.val) := by revert c j; decide

/-- One expert of a device's four, read at an entry. -/
theorem expert_at (e : (cc0_stg2_0 : Ref sig .tc).ty.Contents (Elt Ideal)) (j : Fin 4)
    (inb : ∀ a, (![j.val, 0, 0] : Fin 3 → ℕ) a + S1x512x1024.size a ≤ S4x512x1024.size a) (k : Fin 512) (o : Fin 1024) :
    expert e j.val inb (ix3 (0 : Fin 1) k o) = e (ix3 j k o) := by
  refine congrArg e (funext fun a => Fin.ext ?_)
  fin_cases a
  · show j.val + 1 * 0 = j.val; omega
  · show 0 + 1 * k.val = k.val; omega
  · show 0 + 1 * o.val = o.val; omega

/-- Device `c`'s own partial: its four experts' shares. -/
theorem partial_at (c : Dev nD) (x : Vec Ideal S1024x512 .bf16) (r : Vec Ideal S1024x1 .i32)
    (e : (cc0_stg2_0 : Ref sig .tc).ty.Contents (Elt Ideal)) (t o : Fin 1024) :
    partialOf c x r e (ix2 t o)
      = ∑ j : Fin 4, share x r (BitVec.ofNat 32 (j.val + 4 * c.val)) (fun k o => e (ix3 j k o)) t o := by
  have key (j : Fin 4) (inb) := (product_at x r (Scalar.addi (Scalar.muli (Scalar.remsi (Scalar.divsi (Dev.word c) 1#32) 16#32) 4#32)
    (BitVec.ofNat 32 j.val)) (expert e j.val inb) t o).trans (show _ = share x r (BitVec.ofNat 32 (j.val + 4 * c.val)) (fun k o => e (ix3 j k o)) t o by
        rw [word_eq]; exact congrArg (share x r _ · t o) (funext fun k => funext fun o => expert_at e j inb k o))
  have hx : k0_pay1 x = x := shapeCast_self _ _
  have hr : k0_pay2 (F := Ideal) r = r := shapeCast_self _ _
  have hz : (k0_pay3 (F := Ideal) (ix2 t o) : EReal) = 0 := Ideal.ofBits_zero_f32
  rw [Fin.sum_univ_four, ← key 0 inb_S4x512x1024_S1x512x1024_0_0_0, ← key 1 inb_S4x512x1024_S1x512x1024_1_0_0,
    ← key 2 inb_S4x512x1024_S1x512x1024_2_0_0, ← key 3 inb_S4x512x1024_S1x512x1024_3_0_0]
  unfold partialOf k0_pay7 k0_pay4
  rw [hx, hr]
  refine (congrFun (shapeCast_self (s := S1024x1024) _ _) _).trans ?_
  refine (show _ = (k0_pay3 (F := Ideal) (ix2 t o) : EReal) + _ + _ + _ + _ from rfl).trans ?_
  rw [hz, zero_add]
  rfl

/-! ## The launch's arrays -/

variable (m : (ℓ : Loc nD τ sig) → Buf (Elt Ideal) ℓ) (ρ : Dev nD → PrngReg)

/-- The staging buffers hold the argument arrays whole. -/
theorem xstg_eq (c : Dev nD) : xstg m ρ c = m ((c.tc : Thread nD τ).loc main_arg0) :=
  funext fun i => congrArg (m ((c.tc : Thread nD τ).loc main_arg0))
    (blk_emb (Memref.whole main_arg0) false false (stage0_0 0) (sem0_0 0) (Memref.isWhole_whole _) (hstage0_0 0) i)
theorem rstg_eq (c : Dev nD) : rstg m ρ c = m ((c.tc : Thread nD τ).loc main_arg2) :=
  funext fun i => congrArg (m ((c.tc : Thread nD τ).loc main_arg2))
    (blk_emb (Memref.whole main_arg2) false false (stage0_1 0) (sem0_1 0) (Memref.isWhole_whole _) (hstage0_1 0) i)
theorem estg_eq (c : Dev nD) : estg m ρ c = m ((c.tc : Thread nD τ).loc main_arg3) :=
  funext fun i => congrArg (m ((c.tc : Thread nD τ).loc main_arg3))
    (blk_emb (Memref.whole main_arg3) false false (stage0_2 0) (sem0_2 0) (Memref.isWhole_whole _) (hstage0_2 0) i)

/-- Device `c`'s block of the sixty-four experts read at its `j`-th: expert `j + 4c`. -/
theorem block_at (w : (⟨3, ![64, 512, 1024]⟩ : Shape).Idx → EReal) (h) (c : Dev nD) (j : Fin 4) (k : Fin 512) (o : Fin 1024) :
    Layout.block ⟨3, ![4, 512, 1024]⟩ ⟨3, ![64, 512, 1024]⟩ 0 16 c w h (ix3 j k o) = w (ix3 (finProdFinEquiv (c, j) : Fin 64) k o) := by
  refine congrArg w (funext fun a => Fin.ext ?_)
  fin_cases a
  · refine (Layout.Tiles.idx_val_self h c _ 0 rfl).trans ?_
    show c.val * 4 + j.val = j.val + 4 * c.val
    omega
  · exact Layout.Tiles.idx_val_of_ne h c _ 1 (by decide)
  · exact Layout.Tiles.idx_val_of_ne h c _ 2 (by decide)

/-- The result on every device, entry by entry: all sixty-four experts' shares. -/
theorem outAt_at (x : FVec Ideal S1024x512 .bf16) (r : IVec S1024x1 32) (w : (⟨3, ![64, 512, 1024]⟩ : Shape).Idx → EReal) (h)
    (hx : ∀ c : Dev nD, m ((c.tc : Thread nD τ).loc main_arg0) = x) (hr : ∀ c : Dev nD, m ((c.tc : Thread nD τ).loc main_arg2) = r)
    (hw : ∀ c : Dev nD, m ((c.tc : Thread nD τ).loc main_arg3) = Layout.block ⟨3, ![4, 512, 1024]⟩ ⟨3, ![64, 512, 1024]⟩ 0 16 c w h)
    (t o : Fin 1024) :
    outAt m ρ (ix2 t o) = ∑ e : Fin 64, share x r (BitVec.ofNat 32 e.val) (fun k o => w (ix3 e k o)) t o := by
  show (W (A m ρ) (ix2 t o) : EReal) = _
  rw [W_sum, ← Equiv.sum_comp (finProdFinEquiv : Fin 16 × Fin 4 ≃ Fin 64), Fintype.sum_prod_type]
  refine Finset.sum_congr rfl fun c _ => ?_
  show partialOf c (xstg m ρ c) (rstg m ρ c) (estg m ρ c) (ix2 t o) = _
  rw [partial_at, xstg_eq, rstg_eq, estg_eq, hx, hr, hw]
  refine Finset.sum_congr rfl fun j _ => ?_
  exact congrArg (share x r _ · t o) (funext fun k => funext fun o => block_at w h c j k o)

end Cert.KernelIdeal.Dispatch

end
-- ==== Proof.ReferenceIdealValue.lean ====
/- What the reference computes over the exact values: entry `(t, o)` of its result is the sum over the sixty-four experts
   of the expert's product with token `t`, counted where the token's routing index names the expert. The reference takes
   the one matrix that the index names and masks the rows whose index names none; both come to that sum. -/
module

public import proofs.«01_k».proof.Defs
public import proofs.«01_k».proof.Proof.Gen.ReferenceIdeal
public import proofs.«01_k».proof.Proof.Gen.ReferenceIdeal.Run
public import Idealize.ShloMosaic.Lib.IdealHost
public import Idealize.ShloMosaic.Lib.Pipeline.Value
public import Idealize.ShloMosaic.Lib.Affine
public import Idealize.ShloMosaic.Lib.Quiescent
public import Idealize.ShloMosaic.Adequacy
public import Idealize.ShloMosaic.Init

@[expose] public section

noncomputable section

namespace Cert.ReferenceIdeal.Value

open Cert.ReferenceIdeal Cert.ReferenceIdeal.Gen Idealize Idealize.ShloMosaic Idealize.ShloMosaic.ValueIdx
open scoped BigOperators

/-! ## The rows taken out of the weights -/

section Take
variable {N K O T : ℕ}

/-- The dimension numbers of taking whole `[K, O]` matrices out of a stack of `N`, one for each of `T` indices. -/
abbrev takeDims (wf : GatherDims.WF ⟨3, ![N, K, O]⟩ ⟨2, ![T, 1]⟩ ⟨3, ![T, K, O]⟩ [1, 2] [0] [] [0] [] 1 ![1, K, O]) :
    GatherDims ⟨3, ![N, K, O]⟩ ⟨2, ![T, 1]⟩ ⟨3, ![T, K, O]⟩ where
  offsetDims := [1, 2]
  collapsedSliceDims := [0]
  operandBatchingDims := []
  startIndicesBatchingDims := []
  startIndexMap := [0]
  indexVectorDim := 1
  sliceSizes := ![1, K, O]
  wf := wf

/-- A matrix taken at an index that is in range is the stack's matrix there. -/
theorem take_at (wf : GatherDims.WF ⟨3, ![N, K, O]⟩ ⟨2, ![T, 1]⟩ ⟨3, ![T, K, O]⟩ [1, 2] [0] [] [0] [] 1 ![1, K, O])
    (w : (⟨3, ![N, K, O]⟩ : Shape).Idx → EReal) (idx : IVec ⟨2, ![T, 1]⟩ 32) (t : Fin T) (k : Fin K) (o : Fin O) (e : Fin N)
    (he : (idx (ix2 t (0 : Fin 1))).toInt.toNat = e.val) :
    Host.gather (takeDims wf) w idx (ix3 t k o) = w (ix3 e k o) := by
  refine congrArg w (funext fun a => Fin.ext ?_)
  show (takeDims wf).start (ix3 t k o) idx a + (takeDims wf).batchCoord (ix3 t k o) a + (takeDims wf).offCoord (ix3 t k o) a = _
  rw [GatherDims.batchCoord_eq_zero _ _ _ (List.not_mem_nil), Nat.add_zero]
  match a with
  | ⟨0, _⟩ =>
    have hs : (takeDims wf).siIdx (ix3 t k o) ⟨0, Nat.one_pos⟩ = ix2 t (0 : Fin 1) := by
      funext b; apply Fin.ext
      match b with
      | ⟨0, _⟩ => rfl
      | ⟨1, _⟩ => rfl
    have h0 : (takeDims wf).start (ix3 t k o) idx (0 : Fin 3) = min (idx (ix2 t (0 : Fin 1))).toInt.toNat (N - 1) := by
      rw [← hs]; rfl
    have ho : (takeDims wf).offCoord (ix3 t k o) (0 : Fin 3) = 0 := rfl
    refine (congrArg₂ (· + ·) h0 ho).trans ?_
    show min _ _ + 0 = e.val
    have := e.isLt
    omega
  | ⟨1, _⟩ => exact Nat.zero_add _
  | ⟨2, _⟩ => exact Nat.zero_add _

end Take

/-! ## The result entry by entry -/

/-- Every token times the matrix taken for it. -/
theorem products_at (x : FVec Ideal S1024x512 .f32) (v : FVec Ideal S1024x512x1024 .f32) (t o : Fin 1024) :
    Host.dotGeneral (F := Ideal) dot_S1024x512_S1024x512x1024_S1024x1024_1_1_n_2_0_0 none x v (ix2 t o)
      = ∑ k : Fin 512, (x (ix2 t k) : EReal) * v (ix3 t k o) := by
  simp only [Host.dotGeneral]
  rw [Ideal.dotGeneral_apply, ← Equiv.sum_comp (contrEquiv1 dot_S1024x512_S1024x512x1024_S1024x1024_1_1_n_2_0_0 512 rfl rfl).symm]
  refine Finset.sum_congr rfl fun k _ => ?_
  have hk := contrEquiv1_symm_val dot_S1024x512_S1024x512x1024_S1024x1024_1_1_n_2_0_0 512 rfl rfl k
  refine congrArg₂ (fun a b : EReal => a * b) (congrArg x ?_) (congrArg v ?_)
  · funext a; apply Fin.ext
    match a with
    | ⟨0, _⟩ => rfl
    | ⟨1, _⟩ => exact hk
  · funext a; apply Fin.ext
    match a with
    | ⟨0, _⟩ => rfl
    | ⟨1, _⟩ => exact hk
    | ⟨2, _⟩ => rfl

/-- The tokens' routing indices as a vector. -/
def routes (r : IVec S1024x1 32) : IVec S1024 32 := shapeCast _ r shapeCasts_S1024x1_S1024

theorem routes_at (r : IVec S1024x1 32) (t : Fin 1024) : routes r (ix1 t) = r (ix2 t (0 : Fin 1)) :=
  shapeCast_apply _ _ _ _ (by
    rw [Shape.rowMajor_val_two, Shape.rowMajor_val_one]
    show t.val * 1 + 0 = t.val
    omega)

/-- The bit that says of each token whether its routing index names an expert. -/
def named (r : IVec S1024x1 32) : IVec S1024 1 :=
  andi (cmpi .sge (routes r) (broadcastInDim S1024 ![] bcast_S_S1024 (constantI S_ 32 0#32)))
    (cmpi .slt (routes r) (broadcastInDim S1024 ![] bcast_S_S1024 (constantI S_ 32 64#32)))

theorem named_at (r : IVec S1024x1 32) (t : Fin 1024) : named r (ix1 t) = 1#1 ↔ (r (ix2 t (0 : Fin 1))).toNat < 64 := by
  have hand (a b : BitVec 1) : IntOp.andi a b = 1#1 ↔ a = 1#1 ∧ b = 1#1 := by revert a b; decide
  have h0 : (0#32 : BitVec 32).toInt = 0 := by decide
  have h64 : (64#32 : BitVec 32).toInt = 64 := by decide
  show IntOp.andi (IntOp.cmpi .sge (routes r (ix1 t)) 0#32) (IntOp.cmpi .slt (routes r (ix1 t)) 64#32) = 1#1 ↔ _
  rw [routes_at, hand, IntOp.cmpi_sge, IntOp.cmpi_slt, h0, h64, BitVec.toInt_eq_toNat_cond]
  have := (r (ix2 t (0 : Fin 1))).isLt
  split <;> omega

/-- The reference's result of tokens `x`, routing indices `r` and weights `w`. -/
def result (x : FVec Ideal S1024x512 .bf16) (r : IVec S1024x1 32) (w : FVec Ideal S64x512x1024 .bf16) : FVec Ideal S1024x1024 .f32 :=
  select (broadcastInDim S1024x1024 ![0, 1] bcast_S1024x1_S1024x1024_0_1 (broadcastInDim S1024x1 ![0] bcast_S1024_S1024x1_0 (named r)))
    (Host.dotGeneral dot_S1024x512_S1024x512x1024_S1024x1024_1_1_n_2_0_0 none (extf .f32 x bitsLt_bf16_f32)
      (extf .f32 (Host.gather gather_S64x512x1024_S1024x1_S1024x512x1024_12_0_n_n_0_1_15121024 w
        (broadcastInDim S1024x1 ![0] bcast_S1024_S1024x1_0 (routes r))) bitsLt_bf16_f32))
    (broadcastInDim S1024x1024 ![] bcast_S_S1024x1024 (id (constant S_ .f32 0x00000000#32)))

/-- A vector over the tokens, spread as a column, read at a token. -/
theorem column_at {α : Type} (v : S1024.Idx → α) (t : Fin 1024) :
    broadcastInDim S1024x1 ![0] bcast_S1024_S1024x1_0 v (ix2 t (0 : Fin 1)) = v (ix1 t) :=
  broadcastInDim_apply _ _ _ _ (ix1 t) fun a => by
    fin_cases a
    exact (if_neg (by decide : ¬ (1024 : ℕ) = 1)).symm

/-- The result entry by entry: the sum over the experts of the products of those that the token's routing index names. -/
theorem result_at (x : FVec Ideal S1024x512 .bf16) (r : IVec S1024x1 32) (w : FVec Ideal S64x512x1024 .bf16) (t o : Fin 1024) :
    result x r w (ix2 t o)
      = ∑ e : Fin 64, if r (ix2 t (0 : Fin 1)) = BitVec.ofNat 32 e.val then ∑ k : Fin 512, (x (ix2 t k) : EReal) * w (ix3 e k o) else 0 := by
  have hm : broadcastInDim S1024x1024 ![0, 1] bcast_S1024x1_S1024x1024_0_1
      (broadcastInDim S1024x1 ![0] bcast_S1024_S1024x1_0 (named r)) (ix2 t o) = named r (ix1 t) :=
    (broadcastInDim_apply _ _ _ _ (ix2 t (0 : Fin 1)) fun a => by
      fin_cases a
      exacts [(if_neg (by decide : ¬ (1024 : ℕ) = 1)).symm, (if_pos rfl).symm]).trans (column_at _ t)
  have hv (e : Fin 64) : (BitVec.ofNat 32 e.val).toNat = e.val := by
    rw [BitVec.toNat_ofNat]; exact Nat.mod_eq_of_lt (by have := e.isLt; omega)
  unfold result
  rw [select_apply, hm]
  by_cases h : (r (ix2 t (0 : Fin 1))).toNat < 64
  · rw [(named_at r t).mpr h, select_one, products_at]
    have he : r (ix2 t (0 : Fin 1)) = BitVec.ofNat 32 (r (ix2 t (0 : Fin 1))).toNat := by simp
    rw [Finset.sum_eq_single (⟨_, h⟩ : Fin 64) (fun b _ hb => if_neg fun hb' => hb (Fin.ext ?_)) (fun hb => absurd (Finset.mem_univ _) hb),
      if_pos he]
    · refine Finset.sum_congr rfl fun k _ => congrArg (fun y : EReal => (x (ix2 t k) : EReal) * y) ?_
      refine take_at _ w _ t k o ⟨_, h⟩ ?_
      rw [column_at, routes_at, BitVec.toInt_eq_toNat_cond, if_pos (by omega)]
      rfl
    · exact (hv b).symm.trans (congrArg BitVec.toNat hb'.symm)
  · rw [eq_zero_of_ne_one (fun h' => h ((named_at r t).mp h')), select_zero]
    rw [Finset.sum_eq_zero fun e _ => if_neg fun he => h (by rw [he, hv]; exact e.isLt)]
    exact (broadcastInDim_scalar_apply _ _ _).trans Ideal.ofBits_zero_f32

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdealLaunch
public import proofs.«01_k».proof.Proof.KernelIdealValue
public import proofs.«01_k».proof.Proof.ReferenceIdealValue
public import Idealize.ShloMosaic.Adequacy
public import Idealize.ShloMosaic.Init

@[expose] public section

noncomputable section

namespace Cert.Proof

open Idealize.ShloMosaic Idealize.ShloMosaic.ValueIdx Idealize.SL.Sem

/-! ## The kernel's frames -/

/-- The kernel's body is the same program in both of its printed forms, -/
theorem defs₀_eq {F : FTy → Type} [FloatOps F] : @Cert.Kernel.defs₀ F _ _ = @Cert.KernelIdeal.defs₀ F _ _ := by
  refine congrArg Defs.onTc (funext fun l => funext fun a => ?_)
  match l, a with
  | ⟨0, _⟩, (t, s) => rfl

/-- so the launches' definitions are. -/
theorem defs_eq {F : FTy → Type} [FloatOps F] : @Cert.Kernel.defs F _ _ = @Cert.KernelIdeal.defs F _ _ :=
  congrArg (Pipeline.defs (Cert.KernelIdeal.pcfgs (F := F))) defs₀_eq

/-- At any values the kernel ends with its arguments unchanged and every semaphore counter zero. -/
theorem frame {F : FTy → Type} [FloatOps F] (m : (ℓ : Loc Cert.KernelIdeal.nD Cert.KernelIdeal.τ Cert.KernelIdeal.sig) → Buf (Elt F) ℓ)
    (g : Dev Cert.KernelIdeal.nD → PrngReg) (D) (hD : D = Cert.KernelIdeal.defs (F := F)) :
    θ_run D (onTc (τ := Cert.KernelIdeal.τ) (Cert.KernelIdeal.main (F := F))) ⟨m, fun _ => 0, g⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0 := by
  subst hD
  exact (θ_run _ _ _).mono (fun _ h => ⟨fun c => (h.1 c).2, h.2⟩) (Cert.KernelIdeal.Dispatch.run m g)

theorem frame_Kernel : Cert.quiescent_Kernel := fun m g _ => frame (F := Bits) m g Cert.Kernel.defs defs_eq

theorem frame_KernelIdeal : Cert.quiescent_KernelIdeal := fun m g _ => frame (F := Ideal) m g _ rfl

/-! ## The reference's frame -/

theorem frame_ReferenceIdeal : Cert.quiescent_ReferenceIdeal := fun m g _ =>
  (θ_run _ _ _).mono (fun r h => ⟨fun c => (h c).2, sem_eq_zero_of_no_sems (by decide) r.2⟩) (Cert.ReferenceIdeal.Value.run m g)

/-! ## The two results -/

/-- Over the exact values the kernel's result on every device is the reference's. -/
theorem same_result : Cert.algebraic_KernelIdeal_ReferenceIdeal := fun m g m' g' _ h => by
  refine ⟨Cert.ReferenceIdeal.Value.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run _ _ _).mono (fun _ hr c => ⟨(hr.1 c).1.trans ?_, (hr.1 c).2⟩) (Cert.KernelIdeal.Dispatch.run m g)
    refine funext fun (i : Cert.KernelIdeal.S1024x1024.Idx) => ?_
    rw [eq_ix2 i]
    exact (Cert.KernelIdeal.Dispatch.outAt_at m g _ _ _ _ (fun c => (h c).1) (fun c => (h c).2.2.1) (fun c => (h c).2.2.2) _ _).trans
      (Cert.ReferenceIdeal.Value.result_at _ _ _ _ _).symm
  · exact (θ_run _ _ _).mono (fun _ hr => hr 0) (Cert.ReferenceIdeal.Value.run m' g')

theorem claim : Cert.Claim := ⟨Cert.Kernel.Gen.facts, Cert.KernelIdeal.Gen.facts, Cert.ReferenceIdeal.Gen.facts,
  frame_Kernel, frame_KernelIdeal, frame_ReferenceIdeal, trivial, same_result⟩

end Cert.Proof

end
